-- ==== Defs.lean ====
def Pre_Kernel [hPre_segments : Cert.Pre_segments.Facts] (m : (ℓ : Loc Cert.Kernel.nD Cert.Kernel.τ Cert.Kernel.sig) → Buf (Elt Bits) ℓ) : Prop :=
  ∀ c : Dev Cert.Kernel.nD,
    (Cert.Pre_segments.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_segments : Cert.Pre_segments.Facts] (m : (ℓ : Loc Cert.KernelIdeal.nD Cert.KernelIdeal.τ Cert.KernelIdeal.sig) → Buf (Elt Ideal) ℓ) : Prop :=
  ∀ c : Dev Cert.KernelIdeal.nD,
    (Cert.Pre_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_finite_segments [hPre_finite_segments : Cert.Pre_finite_segments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_segments [hPre_finite_segments : Cert.Pre_finite_segments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_segments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_segments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_segments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_segments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite_segments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite_segments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def quiescent_Kernel [hKernel : Cert.Kernel.Facts] [hPre_segments : Cert.Pre_segments.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_segments : Cert.Pre_segments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_segments [hKernelIdeal : Cert.KernelIdeal.Facts] [hPre_finite_segments : Cert.Pre_finite_segments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_segments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_segments [hReferenceIdeal : Cert.ReferenceIdeal.Facts] [hPre_finite_segments : Cert.Pre_finite_segments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_segments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_segments [hKernelIdeal : Cert.KernelIdeal.Facts] [hReferenceIdeal : Cert.ReferenceIdeal.Facts] [hPre_finite_segments : Cert.Pre_finite_segments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_segments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_segments : Cert.Pre_segments.Facts) (hPre_finite_segments : Cert.Pre_finite_segments.Facts),
    quiescent_Kernel (hKernel := hKernel) (hPre_segments := hPre_segments)
    ∧ quiescent_KernelIdeal (hKernelIdeal := hKernelIdeal) (hPre_segments := hPre_segments)
    ∧ quiescent_KernelIdeal_pre_finite_segments (hKernelIdeal := hKernelIdeal) (hPre_finite_segments := hPre_finite_segments)
    ∧ quiescent_ReferenceIdeal (hReferenceIdeal := hReferenceIdeal)
    ∧ quiescent_ReferenceIdeal_pre_finite_segments (hReferenceIdeal := hReferenceIdeal) (hPre_finite_segments := hPre_finite_segments)
    ∧ preserves_Kernel_KernelIdeal
    ∧ algebraic_KernelIdeal_ReferenceIdeal_pre_finite_segments (hKernelIdeal := hKernelIdeal) (hReferenceIdeal := hReferenceIdeal) (hPre_finite_segments := hPre_finite_segments)
-- ==== Pre_finite_segments.lean ====
abbrev S4096x128 : Shape := ⟨2, ![4096, 128]⟩
abbrev S17 : Shape := ⟨1, ![17]⟩
abbrev S128x128 : Shape := ⟨2, ![128, 128]⟩
abbrev S128 : Shape := ⟨1, ![128]⟩
abbrev S_ : Shape := ⟨0, ![]⟩

class Facts : Prop where
  bcast_S_S17 : S_.BroadcastsInDim S17 (![] : Fin 0 → Fin S17.rank)
  bcast_S_S4096x128 : S_.BroadcastsInDim S4096x128 (![] : Fin 0 → Fin S4096x128.rank)
  bcast_S_S128x128 : S_.BroadcastsInDim S128x128 (![] : Fin 0 → Fin S128x128.rank)
  bcast_S_S128 : S_.BroadcastsInDim S128 (![] : Fin 0 → Fin S128.rank)

variable [Facts]

def fn_where {F : FTy → Type} [FloatOps F] (arg0 : IVec S17 1) (arg1 : IVec S_ 32) (arg2 : IVec S_ 32) : IVec S17 32 :=
  let v0 : IVec S17 32 := broadcastInDim S17 ![] bcast_S_S17 arg1
  let v1 : IVec S17 32 := broadcastInDim S17 ![] bcast_S_S17 arg2
  let v2 : IVec S17 32 := select arg0 v0 v1
  v2

def fn_part1 {F : FTy → Type} [FloatOps F] (main_arg0 : FVec F S4096x128 .f32) (main_arg2 : FVec F S128x128 .f32) (main_arg3 : FVec F S128x128 .f32) (main_arg5 : FVec F S128 .f32) (main_arg6 : FVec F S128 .f32) (main_v17 : IVec S17 1) : IVec S17 1 × IVec S4096x128 1 × IVec S128x128 1 × IVec S128x128 1 × IVec S128 1 × IVec S128 1 :=
  let main_v18 : FVec F S4096x128 .f32 := Host.absf main_arg0
  let main_cst : FVec F S_ .f32 := constant S_ .f32 0x7F800000#32
  let main_v19 : FVec F S4096x128 .f32 := broadcastInDim S4096x128 ![] bcast_S_S4096x128 main_cst
  let main_v20 : IVec S4096x128 1 := cmpf .olt main_v18 main_v19
  let main_v21 : FVec F S128x128 .f32 := Host.absf main_arg2
  let main_cst_5 : FVec F S_ .f32 := constant S_ .f32 0x7F800000#32
  let main_v22 : FVec F S128x128 .f32 := broadcastInDim S128x128 ![] bcast_S_S128x128 main_cst_5
  let main_v23 : IVec S128x128 1 := cmpf .olt main_v21 main_v22
  let main_v24 : FVec F S128x128 .f32 := Host.absf main_arg3
  let main_cst_6 : FVec F S_ .f32 := constant S_ .f32 0x7F800000#32
  let main_v25 : FVec F S128x128 .f32 := broadcastInDim S128x128 ![] bcast_S_S128x128 main_cst_6
  let main_v26 : IVec S128x128 1 := cmpf .olt main_v24 main_v25
  let main_v27 : FVec F S128 .f32 := Host.absf main_arg5
  let main_cst_7 : FVec F S_ .f32 := constant S_ .f32 0x7F800000#32
  let main_v28 : FVec F S128 .f32 := broadcastInDim S128 ![] bcast_S_S128 main_cst_7
  let main_v29 : IVec S128 1 := cmpf .olt main_v27 main_v28
  let main_v30 : FVec F S128 .f32 := Host.absf main_arg6
  let main_cst_8 : FVec F S_ .f32 := constant S_ .f32 0x7F800000#32
  let main_v31 : FVec F S128 .f32 := broadcastInDim S128 ![] bcast_S_S128 main_cst_8
  let main_v32 : IVec S128 1 := cmpf .olt main_v30 main_v31
  (main_v17, main_v20, main_v23, main_v26, main_v29, main_v32)

def fn {F : FTy → Type} [FloatOps F] (main_arg0 : FVec F S4096x128 .f32) (main_arg1 : IVec S17 32) (main_arg2 : FVec F S128x128 .f32) (main_arg3 : FVec F S128x128 .f32) (main_arg4 : FVec F S128x128 .f32) (main_arg5 : FVec F S128 .f32) (main_arg6 : FVec F S128 .f32) (main_arg7 : FVec F S128 .f32) : IVec S17 1 × IVec S4096x128 1 × IVec S128x128 1 × IVec S128x128 1 × IVec S128 1 × IVec S128 1 :=
  let main_v0 : IVec S17 32 := iotaInDim S17 32 0
  let main_c : IVec S_ 32 := constantI S_ 32 0#32
  let main_v1 : IVec S17 32 := broadcastInDim S17 ![] bcast_S_S17 main_c
  let main_v2 : IVec S17 1 := cmpi .eq main_v0 main_v1
  let main_c_0 : IVec S_ 32 := constantI S_ 32 16#32
  let main_v3 : IVec S17 32 := broadcastInDim S17 ![] bcast_S_S17 main_c_0
  let main_v4 : IVec S17 1 := cmpi .eq main_v0 main_v3
  let main_v5 : IVec S17 1 := ori main_v2 main_v4
  let main_c_1 : IVec S_ 32 := constantI S_ 32 0#32
  let main_c_2 : IVec S_ 32 := constantI S_ 32 100#32
  let main_v6 : IVec S17 32 := fn_where (F := F) main_v5 main_c_1 main_c_2
  let main_c_3 : IVec S_ 32 := constantI S_ 32 256#32
  let main_v7 : IVec S17 32 := broadcastInDim S17 ![] bcast_S_S17 main_c_3
  let main_v8 : IVec S17 32 := muli main_v7 main_v0
  let main_v9 : IVec S17 32 := id main_v6
  let main_v10 : IVec S17 32 := subi main_v8 main_v9
  let main_v11 : IVec S17 1 := cmpi .sge main_arg1 main_v10
  let main_c_4 : IVec S_ 32 := constantI S_ 32 256#32
  let main_v12 : IVec S17 32 := broadcastInDim S17 ![] bcast_S_S17 main_c_4
  let main_v13 : IVec S17 32 := muli main_v12 main_v0
  let main_v14 : IVec S17 32 := id main_v6
  let main_v15 : IVec S17 32 := addi main_v13 main_v14
  let main_v16 : IVec S17 1 := cmpi .sle main_arg1 main_v15
  let main_v17 : IVec S17 1 := andi main_v11 main_v16
  fn_part1 (F := F) main_arg0 main_arg2 main_arg3 main_arg5 main_arg6 main_v17
-- ==== Pre_segments.lean ====
abbrev S4096x128 : Shape := ⟨2, ![4096, 128]⟩
abbrev S17 : Shape := ⟨1, ![17]⟩
abbrev S128x128 : Shape := ⟨2, ![128, 128]⟩
abbrev S128 : Shape := ⟨1, ![128]⟩
abbrev S_ : Shape := ⟨0, ![]⟩

class Facts : Prop where
  bcast_S_S17 : S_.BroadcastsInDim S17 (![] : Fin 0 → Fin S17.rank)

variable [Facts]

def fn_where {F : FTy → Type} [FloatOps F] (arg0 : IVec S17 1) (arg1 : IVec S_ 32) (arg2 : IVec S_ 32) : IVec S17 32 :=
  let v0 : IVec S17 32 := broadcastInDim S17 ![] bcast_S_S17 arg1
  let v1 : IVec S17 32 := broadcastInDim S17 ![] bcast_S_S17 arg2
  let v2 : IVec S17 32 := select arg0 v0 v1
  v2

def fn {F : FTy → Type} [FloatOps F] (main_arg0 : FVec F S4096x128 .f32) (main_arg1 : IVec S17 32) (main_arg2 : FVec F S128x128 .f32) (main_arg3 : FVec F S128x128 .f32) (main_arg4 : FVec F S128x128 .f32) (main_arg5 : FVec F S128 .f32) (main_arg6 : FVec F S128 .f32) (main_arg7 : FVec F S128 .f32) : IVec S17 1 :=
  let main_v0 : IVec S17 32 := iotaInDim S17 32 0
  let main_c : IVec S_ 32 := constantI S_ 32 0#32
  let main_v1 : IVec S17 32 := broadcastInDim S17 ![] bcast_S_S17 main_c
  let main_v2 : IVec S17 1 := cmpi .eq main_v0 main_v1
  let main_c_0 : IVec S_ 32 := constantI S_ 32 16#32
  let main_v3 : IVec S17 32 := broadcastInDim S17 ![] bcast_S_S17 main_c_0
  let main_v4 : IVec S17 1 := cmpi .eq main_v0 main_v3
  let main_v5 : IVec S17 1 := ori main_v2 main_v4
  let main_c_1 : IVec S_ 32 := constantI S_ 32 0#32
  let main_c_2 : IVec S_ 32 := constantI S_ 32 100#32
  let main_v6 : IVec S17 32 := fn_where (F := F) main_v5 main_c_1 main_c_2
  let main_c_3 : IVec S_ 32 := constantI S_ 32 256#32
  let main_v7 : IVec S17 32 := broadcastInDim S17 ![] bcast_S_S17 main_c_3
  let main_v8 : IVec S17 32 := muli main_v7 main_v0
  let main_v9 : IVec S17 32 := id main_v6
  let main_v10 : IVec S17 32 := subi main_v8 main_v9
  let main_v11 : IVec S17 1 := cmpi .sge main_arg1 main_v10
  let main_c_4 : IVec S_ 32 := constantI S_ 32 256#32
  let main_v12 : IVec S17 32 := broadcastInDim S17 ![] bcast_S_S17 main_c_4
  let main_v13 : IVec S17 32 := muli main_v12 main_v0
  let main_v14 : IVec S17 32 := id main_v6
  let main_v15 : IVec S17 32 := addi main_v13 main_v14
  let main_v16 : IVec S17 1 := cmpi .sle main_arg1 main_v15
  let main_v17 : IVec S17 1 := andi main_v11 main_v16
  main_v17
-- ==== Kernel.lean ====
abbrev S4096x128 : Shape := ⟨2, ![4096, 128]⟩
abbrev S17 : Shape := ⟨1, ![17]⟩
abbrev S128x128 : Shape := ⟨2, ![128, 128]⟩
abbrev S128 : Shape := ⟨1, ![128]⟩
abbrev S128x384 : Shape := ⟨2, ![128, 384]⟩
abbrev S384 : Shape := ⟨1, ![384]⟩
abbrev S1x384 : Shape := ⟨2, ![1, 384]⟩
abbrev S4096x256 : Shape := ⟨2, ![4096, 256]⟩
abbrev S512x512 : Shape := ⟨2, ![512, 512]⟩
abbrev S4096x384 : Shape := ⟨2, ![4096, 384]⟩
abbrev S1 : Shape := ⟨1, ![1]⟩
abbrev S512x128 : Shape := ⟨2, ![512, 128]⟩
abbrev S512x256 : Shape := ⟨2, ![512, 256]⟩
abbrev S1x512 : Shape := ⟨2, ![1, 512]⟩
abbrev S512 : Shape := ⟨1, ![512]⟩
abbrev S512x1 : Shape := ⟨2, ![512, 1]⟩

abbrev nBuf : Space → Nat
  | .hbm => 11
  | .vmem => 8
  | .smem => 1
  | _ => 0

abbrev bufTy : (tb : Table) → Fin (tcTables nBuf tb) → BufTy
  | .hbm, ⟨0, _⟩ => ⟨S4096x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x384, .f32⟩
  | .hbm, ⟨8, _⟩ => ⟨S384, .f32⟩
  | .hbm, ⟨9, _⟩ => ⟨S1x384, .f32⟩
  | .hbm, ⟨10, _⟩ => ⟨S4096x128, .f32⟩
  | .local _ .vmem, ⟨0, _⟩ => ⟨S4096x128, .f32⟩
  | .local _ .vmem, ⟨1, _⟩ => ⟨S128x384, .f32⟩
  | .local _ .vmem, ⟨2, _⟩ => ⟨S1x384, .f32⟩
  | .local _ .vmem, ⟨3, _⟩ => ⟨S4096x128, .f32⟩
  | .local _ .vmem, ⟨4, _⟩ => ⟨S4096x128, .bf16⟩
  | .local _ .vmem, ⟨5, _⟩ => ⟨S4096x128, .bf16⟩
  | .local _ .vmem, ⟨6, _⟩ => ⟨S4096x256, .bf16⟩
  | .local _ .vmem, ⟨7, _⟩ => ⟨S512x512, .f32⟩
  | .local _ .smem, ⟨0, _⟩ => ⟨S17, .i32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev main_arg1 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (v43 : BitVec 32) : Fin 2 → Nat :=
  let c3584_i32 : BitVec 32 := 3584#32
  let v45 : BitVec 32 := Scalar.minsi v43 c3584_i32
  let c0_i32_19 : BitVec 32 := 0#32
  let v47 : BitVec 1 := Scalar.cmpi .sgt v45 c0_i32_19
  let v48 : BitVec 32 := Scalar.extui v47
  let c0_i32_20 : BitVec 32 := 0#32
  let v49 : BitVec 1 := Scalar.cmpi .slt v45 c0_i32_20
  let v50 : BitVec 32 := Scalar.extui v49
  let v51 : BitVec 32 := Scalar.subi v48 v50
  let c16_i32 : BitVec 32 := 16#32
  let c0_i32_21 : BitVec 32 := 0#32
  let v52 : BitVec 1 := Scalar.cmpi .sgt c16_i32 c0_i32_21
  let v53 : BitVec 32 := Scalar.extui v52
  let c0_i32_22 : BitVec 32 := 0#32
  let v54 : BitVec 1 := Scalar.cmpi .slt c16_i32 c0_i32_22
  let v55 : BitVec 32 := Scalar.extui v54
  let v56 : BitVec 32 := Scalar.subi v53 v55
  let v57 : BitVec 1 := Scalar.cmpi .ne v51 v56
  let v58 : BitVec 32 := Scalar.remsi v45 c16_i32
  let c0_i32_23 : BitVec 32 := 0#32
  let v59 : BitVec 1 := Scalar.cmpi .ne v58 c0_i32_23
  let v60 : BitVec 1 := Scalar.andi v57 v59
  let v46 : BitVec 32 := Scalar.divsi v45 c16_i32
  let c1_i32 : BitVec 32 := 1#32
  let v61 : BitVec 32 := Scalar.subi v46 c1_i32
  let v62 : BitVec 32 := Scalar.select v60 v61 v46
  let c16_i32_24 : BitVec 32 := 16#32
  let v63 : BitVec 32 := Scalar.muli v62 c16_i32_24
  let v64 : Index := Scalar.indexCast v63
  let c0_25 : Index := 0#32
  ![v64.toNat, 0]

def k0_off2 (v43 : BitVec 32) : Fin 2 → Nat :=
  let c3584_i32 : BitVec 32 := 3584#32
  let v45 : BitVec 32 := Scalar.minsi v43 c3584_i32
  let c0_i32_19 : BitVec 32 := 0#32
  let v47 : BitVec 1 := Scalar.cmpi .sgt v45 c0_i32_19
  let v48 : BitVec 32 := Scalar.extui v47
  let c0_i32_20 : BitVec 32 := 0#32
  let v49 : BitVec 1 := Scalar.cmpi .slt v45 c0_i32_20
  let v50 : BitVec 32 := Scalar.extui v49
  let v51 : BitVec 32 := Scalar.subi v48 v50
  let c16_i32 : BitVec 32 := 16#32
  let c0_i32_21 : BitVec 32 := 0#32
  let v52 : BitVec 1 := Scalar.cmpi .sgt c16_i32 c0_i32_21
  let v53 : BitVec 32 := Scalar.extui v52
  let c0_i32_22 : BitVec 32 := 0#32
  let v54 : BitVec 1 := Scalar.cmpi .slt c16_i32 c0_i32_22
  let v55 : BitVec 32 := Scalar.extui v54
  let v56 : BitVec 32 := Scalar.subi v53 v55
  let v57 : BitVec 1 := Scalar.cmpi .ne v51 v56
  let v58 : BitVec 32 := Scalar.remsi v45 c16_i32
  let c0_i32_23 : BitVec 32 := 0#32
  let v59 : BitVec 1 := Scalar.cmpi .ne v58 c0_i32_23
  let v60 : BitVec 1 := Scalar.andi v57 v59
  let v46 : BitVec 32 := Scalar.divsi v45 c16_i32
  let c1_i32 : BitVec 32 := 1#32
  let v61 : BitVec 32 := Scalar.subi v46 c1_i32
  let v62 : BitVec 32 := Scalar.select v60 v61 v46
  let c16_i32_24 : BitVec 32 := 16#32
  let v63 : BitVec 32 := Scalar.muli v62 c16_i32_24
  let v68 : Index := Scalar.indexCast v63
  let c0_27 : Index := 0#32
  ![v68.toNat, 0]

def k0_chk1 (v43 : BitVec 32) : Prop :=
  (∀ a, (k0_off1 v43) a + S512x128.size a ≤ S4096x128.size a) ∧
  (∀ a, (k0_off2 v43) a + S512x256.size a ≤ S4096x256.size a)
theorem k0_off1_inb : ∀ (v43 : BitVec 32) (k0_hw1 : k0_chk1 v43), ∀ a, (k0_off1 v43) a + S512x128.size a ≤ S4096x128.size a := fun v43 k0_hw1 => k0_hw1.1
theorem k0_off2_inb : ∀ (v43 : BitVec 32) (k0_hw1 : k0_chk1 v43), ∀ a, (k0_off2 v43) a + S512x256.size a ≤ S4096x256.size a := fun v43 k0_hw1 => k0_hw1.2

def k0_off3 (v112 : BitVec 32) : Fin 2 → Nat :=
  let c3584_i32_38 : BitVec 32 := 3584#32
  let v114 : BitVec 32 := Scalar.minsi v112 c3584_i32_38
  let c0_i32_40 : BitVec 32 := 0#32
  let v116 : BitVec 1 := Scalar.cmpi .sgt v114 c0_i32_40
  let v117 : BitVec 32 := Scalar.extui v116
  let c0_i32_41 : BitVec 32 := 0#32
  let v118 : BitVec 1 := Scalar.cmpi .slt v114 c0_i32_41
  let v119 : BitVec 32 := Scalar.extui v118
  let v120 : BitVec 32 := Scalar.subi v117 v119
  let c16_i32_39 : BitVec 32 := 16#32
  let c0_i32_42 : BitVec 32 := 0#32
  let v121 : BitVec 1 := Scalar.cmpi .sgt c16_i32_39 c0_i32_42
  let v122 : BitVec 32 := Scalar.extui v121
  let c0_i32_43 : BitVec 32 := 0#32
  let v123 : BitVec 1 := Scalar.cmpi .slt c16_i32_39 c0_i32_43
  let v124 : BitVec 32 := Scalar.extui v123
  let v125 : BitVec 32 := Scalar.subi v122 v124
  let v126 : BitVec 1 := Scalar.cmpi .ne v120 v125
  let v127 : BitVec 32 := Scalar.remsi v114 c16_i32_39
  let c0_i32_44 : BitVec 32 := 0#32
  let v128 : BitVec 1 := Scalar.cmpi .ne v127 c0_i32_44
  let v129 : BitVec 1 := Scalar.andi v126 v128
  let v115 : BitVec 32 := Scalar.divsi v114 c16_i32_39
  let c1_i32_45 : BitVec 32 := 1#32
  let v130 : BitVec 32 := Scalar.subi v115 c1_i32_45
  let v131 : BitVec 32 := Scalar.select v129 v130 v115
  let c16_i32_46 : BitVec 32 := 16#32
  let v132 : BitVec 32 := Scalar.muli v131 c16_i32_46
  let v133 : Index := Scalar.indexCast v132
  let c0_47 : Index := 0#32
  ![v133.toNat, 0]

def k0_off4 (v112 : BitVec 32) : Fin 2 → Nat :=
  let c3584_i32_38 : BitVec 32 := 3584#32
  let v114 : BitVec 32 := Scalar.minsi v112 c3584_i32_38
  let c0_i32_40 : BitVec 32 := 0#32
  let v116 : BitVec 1 := Scalar.cmpi .sgt v114 c0_i32_40
  let v117 : BitVec 32 := Scalar.extui v116
  let c0_i32_41 : BitVec 32 := 0#32
  let v118 : BitVec 1 := Scalar.cmpi .slt v114 c0_i32_41
  let v119 : BitVec 32 := Scalar.extui v118
  let v120 : BitVec 32 := Scalar.subi v117 v119
  let c16_i32_39 : BitVec 32 := 16#32
  let c0_i32_42 : BitVec 32 := 0#32
  let v121 : BitVec 1 := Scalar.cmpi .sgt c16_i32_39 c0_i32_42
  let v122 : BitVec 32 := Scalar.extui v121
  let c0_i32_43 : BitVec 32 := 0#32
  let v123 : BitVec 1 := Scalar.cmpi .slt c16_i32_39 c0_i32_43
  let v124 : BitVec 32 := Scalar.extui v123
  let v125 : BitVec 32 := Scalar.subi v122 v124
  let v126 : BitVec 1 := Scalar.cmpi .ne v120 v125
  let v127 : BitVec 32 := Scalar.remsi v114 c16_i32_39
  let c0_i32_44 : BitVec 32 := 0#32
  let v128 : BitVec 1 := Scalar.cmpi .ne v127 c0_i32_44
  let v129 : BitVec 1 := Scalar.andi v126 v128
  let v115 : BitVec 32 := Scalar.divsi v114 c16_i32_39
  let c1_i32_45 : BitVec 32 := 1#32
  let v130 : BitVec 32 := Scalar.subi v115 c1_i32_45
  let v131 : BitVec 32 := Scalar.select v129 v130 v115
  let c16_i32_46 : BitVec 32 := 16#32
  let v132 : BitVec 32 := Scalar.muli v131 c16_i32_46
  let v137 : Index := Scalar.indexCast v132
  let c0_49 : Index := 0#32
  ![v137.toNat, 0]

def k0_chk2 (v112 : BitVec 32) : Prop :=
  (∀ a, (k0_off3 v112) a + S512x128.size a ≤ S4096x128.size a) ∧
  (∀ a, (k0_off4 v112) a + S512x256.size a ≤ S4096x256.size a)
theorem k0_off3_inb : ∀ (v112 : BitVec 32) (k0_hw2 : k0_chk2 v112), ∀ a, (k0_off3 v112) a + S512x128.size a ≤ S4096x128.size a := fun v112 k0_hw2 => k0_hw2.1
theorem k0_off4_inb : ∀ (v112 : BitVec 32) (k0_hw2 : k0_chk2 v112), ∀ a, (k0_off4 v112) a + S512x256.size a ≤ S4096x256.size a := fun v112 k0_hw2 => k0_hw2.2

def k0_off5 (v181 : BitVec 32) : Fin 2 → Nat :=
  let c3584_i32_60 : BitVec 32 := 3584#32
  let v183 : BitVec 32 := Scalar.minsi v181 c3584_i32_60
  let c0_i32_62 : BitVec 32 := 0#32
  let v185 : BitVec 1 := Scalar.cmpi .sgt v183 c0_i32_62
  let v186 : BitVec 32 := Scalar.extui v185
  let c0_i32_63 : BitVec 32 := 0#32
  let v187 : BitVec 1 := Scalar.cmpi .slt v183 c0_i32_63
  let v188 : BitVec 32 := Scalar.extui v187
  let v189 : BitVec 32 := Scalar.subi v186 v188
  let c16_i32_61 : BitVec 32 := 16#32
  let c0_i32_64 : BitVec 32 := 0#32
  let v190 : BitVec 1 := Scalar.cmpi .sgt c16_i32_61 c0_i32_64
  let v191 : BitVec 32 := Scalar.extui v190
  let c0_i32_65 : BitVec 32 := 0#32
  let v192 : BitVec 1 := Scalar.cmpi .slt c16_i32_61 c0_i32_65
  let v193 : BitVec 32 := Scalar.extui v192
  let v194 : BitVec 32 := Scalar.subi v191 v193
  let v195 : BitVec 1 := Scalar.cmpi .ne v189 v194
  let v196 : BitVec 32 := Scalar.remsi v183 c16_i32_61
  let c0_i32_66 : BitVec 32 := 0#32
  let v197 : BitVec 1 := Scalar.cmpi .ne v196 c0_i32_66
  let v198 : BitVec 1 := Scalar.andi v195 v197
  let v184 : BitVec 32 := Scalar.divsi v183 c16_i32_61
  let c1_i32_67 : BitVec 32 := 1#32
  let v199 : BitVec 32 := Scalar.subi v184 c1_i32_67
  let v200 : BitVec 32 := Scalar.select v198 v199 v184
  let c16_i32_68 : BitVec 32 := 16#32
  let v201 : BitVec 32 := Scalar.muli v200 c16_i32_68
  let v202 : Index := Scalar.indexCast v201
  let c0_69 : Index := 0#32
  ![v202.toNat, 0]

def k0_off6 (v181 : BitVec 32) : Fin 2 → Nat :=
  let c3584_i32_60 : BitVec 32 := 3584#32
  let v183 : BitVec 32 := Scalar.minsi v181 c3584_i32_60
  let c0_i32_62 : BitVec 32 := 0#32
  let v185 : BitVec 1 := Scalar.cmpi .sgt v183 c0_i32_62
  let v186 : BitVec 32 := Scalar.extui v185
  let c0_i32_63 : BitVec 32 := 0#32
  let v187 : BitVec 1 := Scalar.cmpi .slt v183 c0_i32_63
  let v188 : BitVec 32 := Scalar.extui v187
  let v189 : BitVec 32 := Scalar.subi v186 v188
  let c16_i32_61 : BitVec 32 := 16#32
  let c0_i32_64 : BitVec 32 := 0#32
  let v190 : BitVec 1 := Scalar.cmpi .sgt c16_i32_61 c0_i32_64
  let v191 : BitVec 32 := Scalar.extui v190
  let c0_i32_65 : BitVec 32 := 0#32
  let v192 : BitVec 1 := Scalar.cmpi .slt c16_i32_61 c0_i32_65
  let v193 : BitVec 32 := Scalar.extui v192
  let v194 : BitVec 32 := Scalar.subi v191 v193
  let v195 : BitVec 1 := Scalar.cmpi .ne v189 v194
  let v196 : BitVec 32 := Scalar.remsi v183 c16_i32_61
  let c0_i32_66 : BitVec 32 := 0#32
  let v197 : BitVec 1 := Scalar.cmpi .ne v196 c0_i32_66
  let v198 : BitVec 1 := Scalar.andi v195 v197
  let v184 : BitVec 32 := Scalar.divsi v183 c16_i32_61
  let c1_i32_67 : BitVec 32 := 1#32
  let v199 : BitVec 32 := Scalar.subi v184 c1_i32_67
  let v200 : BitVec 32 := Scalar.select v198 v199 v184
  let c16_i32_68 : BitVec 32 := 16#32
  let v201 : BitVec 32 := Scalar.muli v200 c16_i32_68
  let v206 : Index := Scalar.indexCast v201
  let c0_71 : Index := 0#32
  ![v206.toNat, 0]

def k0_chk3 (v181 : BitVec 32) : Prop :=
  (∀ a, (k0_off5 v181) a + S512x128.size a ≤ S4096x128.size a) ∧
  (∀ a, (k0_off6 v181) a + S512x256.size a ≤ S4096x256.size a)
theorem k0_off5_inb : ∀ (v181 : BitVec 32) (k0_hw3 : k0_chk3 v181), ∀ a, (k0_off5 v181) a + S512x128.size a ≤ S4096x128.size a := fun v181 k0_hw3 => k0_hw3.1
theorem k0_off6_inb : ∀ (v181 : BitVec 32) (k0_hw3 : k0_chk3 v181), ∀ a, (k0_off6 v181) a + S512x256.size a ≤ S4096x256.size a := fun v181 k0_hw3 => k0_hw3.2

def k0_off7 (v250 : BitVec 32) : Fin 2 → Nat :=
  let c3584_i32_82 : BitVec 32 := 3584#32
  let v252 : BitVec 32 := Scalar.minsi v250 c3584_i32_82
  let c0_i32_84 : BitVec 32 := 0#32
  let v254 : BitVec 1 := Scalar.cmpi .sgt v252 c0_i32_84
  let v255 : BitVec 32 := Scalar.extui v254
  let c0_i32_85 : BitVec 32 := 0#32
  let v256 : BitVec 1 := Scalar.cmpi .slt v252 c0_i32_85
  let v257 : BitVec 32 := Scalar.extui v256
  let v258 : BitVec 32 := Scalar.subi v255 v257
  let c16_i32_83 : BitVec 32 := 16#32
  let c0_i32_86 : BitVec 32 := 0#32
  let v259 : BitVec 1 := Scalar.cmpi .sgt c16_i32_83 c0_i32_86
  let v260 : BitVec 32 := Scalar.extui v259
  let c0_i32_87 : BitVec 32 := 0#32
  let v261 : BitVec 1 := Scalar.cmpi .slt c16_i32_83 c0_i32_87
  let v262 : BitVec 32 := Scalar.extui v261
  let v263 : BitVec 32 := Scalar.subi v260 v262
  let v264 : BitVec 1 := Scalar.cmpi .ne v258 v263
  let v265 : BitVec 32 := Scalar.remsi v252 c16_i32_83
  let c0_i32_88 : BitVec 32 := 0#32
  let v266 : BitVec 1 := Scalar.cmpi .ne v265 c0_i32_88
  let v267 : BitVec 1 := Scalar.andi v264 v266
  let v253 : BitVec 32 := Scalar.divsi v252 c16_i32_83
  let c1_i32_89 : BitVec 32 := 1#32
  let v268 : BitVec 32 := Scalar.subi v253 c1_i32_89
  let v269 : BitVec 32 := Scalar.select v267 v268 v253
  let c16_i32_90 : BitVec 32 := 16#32
  let v270 : BitVec 32 := Scalar.muli v269 c16_i32_90
  let v271 : Index := Scalar.indexCast v270
  let c0_91 : Index := 0#32
  ![v271.toNat, 0]

def k0_off8 (v250 : BitVec 32) : Fin 2 → Nat :=
  let c3584_i32_82 : BitVec 32 := 3584#32
  let v252 : BitVec 32 := Scalar.minsi v250 c3584_i32_82
  let c0_i32_84 : BitVec 32 := 0#32
  let v254 : BitVec 1 := Scalar.cmpi .sgt v252 c0_i32_84
  let v255 : BitVec 32 := Scalar.extui v254
  let c0_i32_85 : BitVec 32 := 0#32
  let v256 : BitVec 1 := Scalar.cmpi .slt v252 c0_i32_85
  let v257 : BitVec 32 := Scalar.extui v256
  let v258 : BitVec 32 := Scalar.subi v255 v257
  let c16_i32_83 : BitVec 32 := 16#32
  let c0_i32_86 : BitVec 32 := 0#32
  let v259 : BitVec 1 := Scalar.cmpi .sgt c16_i32_83 c0_i32_86
  let v260 : BitVec 32 := Scalar.extui v259
  let c0_i32_87 : BitVec 32 := 0#32
  let v261 : BitVec 1 := Scalar.cmpi .slt c16_i32_83 c0_i32_87
  let v262 : BitVec 32 := Scalar.extui v261
  let v263 : BitVec 32 := Scalar.subi v260 v262
  let v264 : BitVec 1 := Scalar.cmpi .ne v258 v263
  let v265 : BitVec 32 := Scalar.remsi v252 c16_i32_83
  let c0_i32_88 : BitVec 32 := 0#32
  let v266 : BitVec 1 := Scalar.cmpi .ne v265 c0_i32_88
  let v267 : BitVec 1 := Scalar.andi v264 v266
  let v253 : BitVec 32 := Scalar.divsi v252 c16_i32_83
  let c1_i32_89 : BitVec 32 := 1#32
  let v268 : BitVec 32 := Scalar.subi v253 c1_i32_89
  let v269 : BitVec 32 := Scalar.select v267 v268 v253
  let c16_i32_90 : BitVec 32 := 16#32
  let v270 : BitVec 32 := Scalar.muli v269 c16_i32_90
  let v275 : Index := Scalar.indexCast v270
  let c0_93 : Index := 0#32
  ![v275.toNat, 0]

def k0_chk4 (v250 : BitVec 32) : Prop :=
  (∀ a, (k0_off7 v250) a + S512x128.size a ≤ S4096x128.size a) ∧
  (∀ a, (k0_off8 v250) a + S512x256.size a ≤ S4096x256.size a)
theorem k0_off7_inb : ∀ (v250 : BitVec 32) (k0_hw4 : k0_chk4 v250), ∀ a, (k0_off7 v250) a + S512x128.size a ≤ S4096x128.size a := fun v250 k0_hw4 => k0_hw4.1
theorem k0_off8_inb : ∀ (v250 : BitVec 32) (k0_hw4 : k0_chk4 v250), ∀ a, (k0_off8 v250) a + S512x256.size a ≤ S4096x256.size a := fun v250 k0_hw4 => k0_hw4.2

def k0_off9 (v319 : BitVec 32) : Fin 2 → Nat :=
  let c3584_i32_104 : BitVec 32 := 3584#32
  let v321 : BitVec 32 := Scalar.minsi v319 c3584_i32_104
  let c0_i32_106 : BitVec 32 := 0#32
  let v323 : BitVec 1 := Scalar.cmpi .sgt v321 c0_i32_106
  let v324 : BitVec 32 := Scalar.extui v323
  let c0_i32_107 : BitVec 32 := 0#32
  let v325 : BitVec 1 := Scalar.cmpi .slt v321 c0_i32_107
  let v326 : BitVec 32 := Scalar.extui v325
  let v327 : BitVec 32 := Scalar.subi v324 v326
  let c16_i32_105 : BitVec 32 := 16#32
  let c0_i32_108 : BitVec 32 := 0#32
  let v328 : BitVec 1 := Scalar.cmpi .sgt c16_i32_105 c0_i32_108
  let v329 : BitVec 32 := Scalar.extui v328
  let c0_i32_109 : BitVec 32 := 0#32
  let v330 : BitVec 1 := Scalar.cmpi .slt c16_i32_105 c0_i32_109
  let v331 : BitVec 32 := Scalar.extui v330
  let v332 : BitVec 32 := Scalar.subi v329 v331
  let v333 : BitVec 1 := Scalar.cmpi .ne v327 v332
  let v334 : BitVec 32 := Scalar.remsi v321 c16_i32_105
  let c0_i32_110 : BitVec 32 := 0#32
  let v335 : BitVec 1 := Scalar.cmpi .ne v334 c0_i32_110
  let v336 : BitVec 1 := Scalar.andi v333 v335
  let v322 : BitVec 32 := Scalar.divsi v321 c16_i32_105
  let c1_i32_111 : BitVec 32 := 1#32
  let v337 : BitVec 32 := Scalar.subi v322 c1_i32_111
  let v338 : BitVec 32 := Scalar.select v336 v337 v322
  let c16_i32_112 : BitVec 32 := 16#32
  let v339 : BitVec 32 := Scalar.muli v338 c16_i32_112
  let v340 : Index := Scalar.indexCast v339
  let c0_113 : Index := 0#32
  ![v340.toNat, 0]

def k0_off10 (v319 : BitVec 32) : Fin 2 → Nat :=
  let c3584_i32_104 : BitVec 32 := 3584#32
  let v321 : BitVec 32 := Scalar.minsi v319 c3584_i32_104
  let c0_i32_106 : BitVec 32 := 0#32
  let v323 : BitVec 1 := Scalar.cmpi .sgt v321 c0_i32_106
  let v324 : BitVec 32 := Scalar.extui v323
  let c0_i32_107 : BitVec 32 := 0#32
  let v325 : BitVec 1 := Scalar.cmpi .slt v321 c0_i32_107
  let v326 : BitVec 32 := Scalar.extui v325
  let v327 : BitVec 32 := Scalar.subi v324 v326
  let c16_i32_105 : BitVec 32 := 16#32
  let c0_i32_108 : BitVec 32 := 0#32
  let v328 : BitVec 1 := Scalar.cmpi .sgt c16_i32_105 c0_i32_108
  let v329 : BitVec 32 := Scalar.extui v328
  let c0_i32_109 : BitVec 32 := 0#32
  let v330 : BitVec 1 := Scalar.cmpi .slt c16_i32_105 c0_i32_109
  let v331 : BitVec 32 := Scalar.extui v330
  let v332 : BitVec 32 := Scalar.subi v329 v331
  let v333 : BitVec 1 := Scalar.cmpi .ne v327 v332
  let v334 : BitVec 32 := Scalar.remsi v321 c16_i32_105
  let c0_i32_110 : BitVec 32 := 0#32
  let v335 : BitVec 1 := Scalar.cmpi .ne v334 c0_i32_110
  let v336 : BitVec 1 := Scalar.andi v333 v335
  let v322 : BitVec 32 := Scalar.divsi v321 c16_i32_105
  let c1_i32_111 : BitVec 32 := 1#32
  let v337 : BitVec 32 := Scalar.subi v322 c1_i32_111
  let v338 : BitVec 32 := Scalar.select v336 v337 v322
  let c16_i32_112 : BitVec 32 := 16#32
  let v339 : BitVec 32 := Scalar.muli v338 c16_i32_112
  let v344 : Index := Scalar.indexCast v339
  let c0_115 : Index := 0#32
  ![v344.toNat, 0]

def k0_chk5 (v319 : BitVec 32) : Prop :=
  (∀ a, (k0_off9 v319) a + S512x128.size a ≤ S4096x128.size a) ∧
  (∀ a, (k0_off10 v319) a + S512x256.size a ≤ S4096x256.size a)
theorem k0_off9_inb : ∀ (v319 : BitVec 32) (k0_hw5 : k0_chk5 v319), ∀ a, (k0_off9 v319) a + S512x128.size a ≤ S4096x128.size a := fun v319 k0_hw5 => k0_hw5.1
theorem k0_off10_inb : ∀ (v319 : BitVec 32) (k0_hw5 : k0_chk5 v319), ∀ a, (k0_off10 v319) a + S512x256.size a ≤ S4096x256.size a := fun v319 k0_hw5 => k0_hw5.2

def k0_off11 (v388 : BitVec 32) : Fin 2 → Nat :=
  let c3584_i32_126 : BitVec 32 := 3584#32
  let v390 : BitVec 32 := Scalar.minsi v388 c3584_i32_126
  let c0_i32_128 : BitVec 32 := 0#32
  let v392 : BitVec 1 := Scalar.cmpi .sgt v390 c0_i32_128
  let v393 : BitVec 32 := Scalar.extui v392
  let c0_i32_129 : BitVec 32 := 0#32
  let v394 : BitVec 1 := Scalar.cmpi .slt v390 c0_i32_129
  let v395 : BitVec 32 := Scalar.extui v394
  let v396 : BitVec 32 := Scalar.subi v393 v395
  let c16_i32_127 : BitVec 32 := 16#32
  let c0_i32_130 : BitVec 32 := 0#32
  let v397 : BitVec 1 := Scalar.cmpi .sgt c16_i32_127 c0_i32_130
  let v398 : BitVec 32 := Scalar.extui v397
  let c0_i32_131 : BitVec 32 := 0#32
  let v399 : BitVec 1 := Scalar.cmpi .slt c16_i32_127 c0_i32_131
  let v400 : BitVec 32 := Scalar.extui v399
  let v401 : BitVec 32 := Scalar.subi v398 v400
  let v402 : BitVec 1 := Scalar.cmpi .ne v396 v401
  let v403 : BitVec 32 := Scalar.remsi v390 c16_i32_127
  let c0_i32_132 : BitVec 32 := 0#32
  let v404 : BitVec 1 := Scalar.cmpi .ne v403 c0_i32_132
  let v405 : BitVec 1 := Scalar.andi v402 v404
  let v391 : BitVec 32 := Scalar.divsi v390 c16_i32_127
  let c1_i32_133 : BitVec 32 := 1#32
  let v406 : BitVec 32 := Scalar.subi v391 c1_i32_133
  let v407 : BitVec 32 := Scalar.select v405 v406 v391
  let c16_i32_134 : BitVec 32 := 16#32
  let v408 : BitVec 32 := Scalar.muli v407 c16_i32_134
  let v409 : Index := Scalar.indexCast v408
  let c0_135 : Index := 0#32
  ![v409.toNat, 0]

def k0_off12 (v388 : BitVec 32) : Fin 2 → Nat :=
  let c3584_i32_126 : BitVec 32 := 3584#32
  let v390 : BitVec 32 := Scalar.minsi v388 c3584_i32_126
  let c0_i32_128 : BitVec 32 := 0#32
  let v392 : BitVec 1 := Scalar.cmpi .sgt v390 c0_i32_128
  let v393 : BitVec 32 := Scalar.extui v392
  let c0_i32_129 : BitVec 32 := 0#32
  let v394 : BitVec 1 := Scalar.cmpi .slt v390 c0_i32_129
  let v395 : BitVec 32 := Scalar.extui v394
  let v396 : BitVec 32 := Scalar.subi v393 v395
  let c16_i32_127 : BitVec 32 := 16#32
  let c0_i32_130 : BitVec 32 := 0#32
  let v397 : BitVec 1 := Scalar.cmpi .sgt c16_i32_127 c0_i32_130
  let v398 : BitVec 32 := Scalar.extui v397
  let c0_i32_131 : BitVec 32 := 0#32
  let v399 : BitVec 1 := Scalar.cmpi .slt c16_i32_127 c0_i32_131
  let v400 : BitVec 32 := Scalar.extui v399
  let v401 : BitVec 32 := Scalar.subi v398 v400
  let v402 : BitVec 1 := Scalar.cmpi .ne v396 v401
  let v403 : BitVec 32 := Scalar.remsi v390 c16_i32_127
  let c0_i32_132 : BitVec 32 := 0#32
  let v404 : BitVec 1 := Scalar.cmpi .ne v403 c0_i32_132
  let v405 : BitVec 1 := Scalar.andi v402 v404
  let v391 : BitVec 32 := Scalar.divsi v390 c16_i32_127
  let c1_i32_133 : BitVec 32 := 1#32
  let v406 : BitVec 32 := Scalar.subi v391 c1_i32_133
  let v407 : BitVec 32 := Scalar.select v405 v406 v391
  let c16_i32_134 : BitVec 32 := 16#32
  let v408 : BitVec 32 := Scalar.muli v407 c16_i32_134
  let v413 : Index := Scalar.indexCast v408
  let c0_137 : Index := 0#32
  ![v413.toNat, 0]

def k0_chk6 (v388 : BitVec 32) : Prop :=
  (∀ a, (k0_off11 v388) a + S512x128.size a ≤ S4096x128.size a) ∧
  (∀ a, (k0_off12 v388) a + S512x256.size a ≤ S4096x256.size a)
theorem k0_off11_inb : ∀ (v388 : BitVec 32) (k0_hw6 : k0_chk6 v388), ∀ a, (k0_off11 v388) a + S512x128.size a ≤ S4096x128.size a := fun v388 k0_hw6 => k0_hw6.1
theorem k0_off12_inb : ∀ (v388 : BitVec 32) (k0_hw6 : k0_chk6 v388), ∀ a, (k0_off12 v388) a + S512x256.size a ≤ S4096x256.size a := fun v388 k0_hw6 => k0_hw6.2

def k0_off13 (v457 : BitVec 32) : Fin 2 → Nat :=
  let c3584_i32_148 : BitVec 32 := 3584#32
  let v459 : BitVec 32 := Scalar.minsi v457 c3584_i32_148
  let c0_i32_150 : BitVec 32 := 0#32
  let v461 : BitVec 1 := Scalar.cmpi .sgt v459 c0_i32_150
  let v462 : BitVec 32 := Scalar.extui v461
  let c0_i32_151 : BitVec 32 := 0#32
  let v463 : BitVec 1 := Scalar.cmpi .slt v459 c0_i32_151
  let v464 : BitVec 32 := Scalar.extui v463
  let v465 : BitVec 32 := Scalar.subi v462 v464
  let c16_i32_149 : BitVec 32 := 16#32
  let c0_i32_152 : BitVec 32 := 0#32
  let v466 : BitVec 1 := Scalar.cmpi .sgt c16_i32_149 c0_i32_152
  let v467 : BitVec 32 := Scalar.extui v466
  let c0_i32_153 : BitVec 32 := 0#32
  let v468 : BitVec 1 := Scalar.cmpi .slt c16_i32_149 c0_i32_153
  let v469 : BitVec 32 := Scalar.extui v468
  let v470 : BitVec 32 := Scalar.subi v467 v469
  let v471 : BitVec 1 := Scalar.cmpi .ne v465 v470
  let v472 : BitVec 32 := Scalar.remsi v459 c16_i32_149
  let c0_i32_154 : BitVec 32 := 0#32
  let v473 : BitVec 1 := Scalar.cmpi .ne v472 c0_i32_154
  let v474 : BitVec 1 := Scalar.andi v471 v473
  let v460 : BitVec 32 := Scalar.divsi v459 c16_i32_149
  let c1_i32_155 : BitVec 32 := 1#32
  let v475 : BitVec 32 := Scalar.subi v460 c1_i32_155
  let v476 : BitVec 32 := Scalar.select v474 v475 v460
  let c16_i32_156 : BitVec 32 := 16#32
  let v477 : BitVec 32 := Scalar.muli v476 c16_i32_156
  let v478 : Index := Scalar.indexCast v477
  let c0_157 : Index := 0#32
  ![v478.toNat, 0]

def k0_off14 (v457 : BitVec 32) : Fin 2 → Nat :=
  let c3584_i32_148 : BitVec 32 := 3584#32
  let v459 : BitVec 32 := Scalar.minsi v457 c3584_i32_148
  let c0_i32_150 : BitVec 32 := 0#32
  let v461 : BitVec 1 := Scalar.cmpi .sgt v459 c0_i32_150
  let v462 : BitVec 32 := Scalar.extui v461
  let c0_i32_151 : BitVec 32 := 0#32
  let v463 : BitVec 1 := Scalar.cmpi .slt v459 c0_i32_151
  let v464 : BitVec 32 := Scalar.extui v463
  let v465 : BitVec 32 := Scalar.subi v462 v464
  let c16_i32_149 : BitVec 32 := 16#32
  let c0_i32_152 : BitVec 32 := 0#32
  let v466 : BitVec 1 := Scalar.cmpi .sgt c16_i32_149 c0_i32_152
  let v467 : BitVec 32 := Scalar.extui v466
  let c0_i32_153 : BitVec 32 := 0#32
  let v468 : BitVec 1 := Scalar.cmpi .slt c16_i32_149 c0_i32_153
  let v469 : BitVec 32 := Scalar.extui v468
  let v470 : BitVec 32 := Scalar.subi v467 v469
  let v471 : BitVec 1 := Scalar.cmpi .ne v465 v470
  let v472 : BitVec 32 := Scalar.remsi v459 c16_i32_149
  let c0_i32_154 : BitVec 32 := 0#32
  let v473 : BitVec 1 := Scalar.cmpi .ne v472 c0_i32_154
  let v474 : BitVec 1 := Scalar.andi v471 v473
  let v460 : BitVec 32 := Scalar.divsi v459 c16_i32_149
  let c1_i32_155 : BitVec 32 := 1#32
  let v475 : BitVec 32 := Scalar.subi v460 c1_i32_155
  let v476 : BitVec 32 := Scalar.select v474 v475 v460
  let c16_i32_156 : BitVec 32 := 16#32
  let v477 : BitVec 32 := Scalar.muli v476 c16_i32_156
  let v482 : Index := Scalar.indexCast v477
  let c0_159 : Index := 0#32
  ![v482.toNat, 0]

def k0_chk7 (v457 : BitVec 32) : Prop :=
  (∀ a, (k0_off13 v457) a + S512x128.size a ≤ S4096x128.size a) ∧
  (∀ a, (k0_off14 v457) a + S512x256.size a ≤ S4096x256.size a)
theorem k0_off13_inb : ∀ (v457 : BitVec 32) (k0_hw7 : k0_chk7 v457), ∀ a, (k0_off13 v457) a + S512x128.size a ≤ S4096x128.size a := fun v457 k0_hw7 => k0_hw7.1
theorem k0_off14_inb : ∀ (v457 : BitVec 32) (k0_hw7 : k0_chk7 v457), ∀ a, (k0_off14 v457) a + S512x256.size a ≤ S4096x256.size a := fun v457 k0_hw7 => k0_hw7.2

def k0_off15 (v526 : BitVec 32) : Fin 2 → Nat :=
  let c3584_i32_170 : BitVec 32 := 3584#32
  let v528 : BitVec 32 := Scalar.minsi v526 c3584_i32_170
  let c0_i32_172 : BitVec 32 := 0#32
  let v530 : BitVec 1 := Scalar.cmpi .sgt v528 c0_i32_172
  let v531 : BitVec 32 := Scalar.extui v530
  let c0_i32_173 : BitVec 32 := 0#32
  let v532 : BitVec 1 := Scalar.cmpi .slt v528 c0_i32_173
  let v533 : BitVec 32 := Scalar.extui v532
  let v534 : BitVec 32 := Scalar.subi v531 v533
  let c16_i32_171 : BitVec 32 := 16#32
  let c0_i32_174 : BitVec 32 := 0#32
  let v535 : BitVec 1 := Scalar.cmpi .sgt c16_i32_171 c0_i32_174
  let v536 : BitVec 32 := Scalar.extui v535
  let c0_i32_175 : BitVec 32 := 0#32
  let v537 : BitVec 1 := Scalar.cmpi .slt c16_i32_171 c0_i32_175
  let v538 : BitVec 32 := Scalar.extui v537
  let v539 : BitVec 32 := Scalar.subi v536 v538
  let v540 : BitVec 1 := Scalar.cmpi .ne v534 v539
  let v541 : BitVec 32 := Scalar.remsi v528 c16_i32_171
  let c0_i32_176 : BitVec 32 := 0#32
  let v542 : BitVec 1 := Scalar.cmpi .ne v541 c0_i32_176
  let v543 : BitVec 1 := Scalar.andi v540 v542
  let v529 : BitVec 32 := Scalar.divsi v528 c16_i32_171
  let c1_i32_177 : BitVec 32 := 1#32
  let v544 : BitVec 32 := Scalar.subi v529 c1_i32_177
  let v545 : BitVec 32 := Scalar.select v543 v544 v529
  let c16_i32_178 : BitVec 32 := 16#32
  let v546 : BitVec 32 := Scalar.muli v545 c16_i32_178
  let v547 : Index := Scalar.indexCast v546
  let c0_179 : Index := 0#32
  ![v547.toNat, 0]

def k0_off16 (v526 : BitVec 32) : Fin 2 → Nat :=
  let c3584_i32_170 : BitVec 32 := 3584#32
  let v528 : BitVec 32 := Scalar.minsi v526 c3584_i32_170
  let c0_i32_172 : BitVec 32 := 0#32
  let v530 : BitVec 1 := Scalar.cmpi .sgt v528 c0_i32_172
  let v531 : BitVec 32 := Scalar.extui v530
  let c0_i32_173 : BitVec 32 := 0#32
  let v532 : BitVec 1 := Scalar.cmpi .slt v528 c0_i32_173
  let v533 : BitVec 32 := Scalar.extui v532
  let v534 : BitVec 32 := Scalar.subi v531 v533
  let c16_i32_171 : BitVec 32 := 16#32
  let c0_i32_174 : BitVec 32 := 0#32
  let v535 : BitVec 1 := Scalar.cmpi .sgt c16_i32_171 c0_i32_174
  let v536 : BitVec 32 := Scalar.extui v535
  let c0_i32_175 : BitVec 32 := 0#32
  let v537 : BitVec 1 := Scalar.cmpi .slt c16_i32_171 c0_i32_175
  let v538 : BitVec 32 := Scalar.extui v537
  let v539 : BitVec 32 := Scalar.subi v536 v538
  let v540 : BitVec 1 := Scalar.cmpi .ne v534 v539
  let v541 : BitVec 32 := Scalar.remsi v528 c16_i32_171
  let c0_i32_176 : BitVec 32 := 0#32
  let v542 : BitVec 1 := Scalar.cmpi .ne v541 c0_i32_176
  let v543 : BitVec 1 := Scalar.andi v540 v542
  let v529 : BitVec 32 := Scalar.divsi v528 c16_i32_171
  let c1_i32_177 : BitVec 32 := 1#32
  let v544 : BitVec 32 := Scalar.subi v529 c1_i32_177
  let v545 : BitVec 32 := Scalar.select v543 v544 v529
  let c16_i32_178 : BitVec 32 := 16#32
  let v546 : BitVec 32 := Scalar.muli v545 c16_i32_178
  let v551 : Index := Scalar.indexCast v546
  let c0_181 : Index := 0#32
  ![v551.toNat, 0]

def k0_chk8 (v526 : BitVec 32) : Prop :=
  (∀ a, (k0_off15 v526) a + S512x128.size a ≤ S4096x128.size a) ∧
  (∀ a, (k0_off16 v526) a + S512x256.size a ≤ S4096x256.size a)
theorem k0_off15_inb : ∀ (v526 : BitVec 32) (k0_hw8 : k0_chk8 v526), ∀ a, (k0_off15 v526) a + S512x128.size a ≤ S4096x128.size a := fun v526 k0_hw8 => k0_hw8.1
theorem k0_off16_inb : ∀ (v526 : BitVec 32) (k0_hw8 : k0_chk8 v526), ∀ a, (k0_off16 v526) a + S512x256.size a ≤ S4096x256.size a := fun v526 k0_hw8 => k0_hw8.2

def k0_off17 (v595 : BitVec 32) : Fin 2 → Nat :=
  let c3584_i32_192 : BitVec 32 := 3584#32
  let v597 : BitVec 32 := Scalar.minsi v595 c3584_i32_192
  let c0_i32_194 : BitVec 32 := 0#32
  let v599 : BitVec 1 := Scalar.cmpi .sgt v597 c0_i32_194
  let v600 : BitVec 32 := Scalar.extui v599
  let c0_i32_195 : BitVec 32 := 0#32
  let v601 : BitVec 1 := Scalar.cmpi .slt v597 c0_i32_195
  let v602 : BitVec 32 := Scalar.extui v601
  let v603 : BitVec 32 := Scalar.subi v600 v602
  let c16_i32_193 : BitVec 32 := 16#32
  let c0_i32_196 : BitVec 32 := 0#32
  let v604 : BitVec 1 := Scalar.cmpi .sgt c16_i32_193 c0_i32_196
  let v605 : BitVec 32 := Scalar.extui v604
  let c0_i32_197 : BitVec 32 := 0#32
  let v606 : BitVec 1 := Scalar.cmpi .slt c16_i32_193 c0_i32_197
  let v607 : BitVec 32 := Scalar.extui v606
  let v608 : BitVec 32 := Scalar.subi v605 v607
  let v609 : BitVec 1 := Scalar.cmpi .ne v603 v608
  let v610 : BitVec 32 := Scalar.remsi v597 c16_i32_193
  let c0_i32_198 : BitVec 32 := 0#32
  let v611 : BitVec 1 := Scalar.cmpi .ne v610 c0_i32_198
  let v612 : BitVec 1 := Scalar.andi v609 v611
  let v598 : BitVec 32 := Scalar.divsi v597 c16_i32_193
  let c1_i32_199 : BitVec 32 := 1#32
  let v613 : BitVec 32 := Scalar.subi v598 c1_i32_199
  let v614 : BitVec 32 := Scalar.select v612 v613 v598
  let c16_i32_200 : BitVec 32 := 16#32
  let v615 : BitVec 32 := Scalar.muli v614 c16_i32_200
  let v616 : Index := Scalar.indexCast v615
  let c0_201 : Index := 0#32
  ![v616.toNat, 0]

def k0_off18 (v595 : BitVec 32) : Fin 2 → Nat :=
  let c3584_i32_192 : BitVec 32 := 3584#32
  let v597 : BitVec 32 := Scalar.minsi v595 c3584_i32_192
  let c0_i32_194 : BitVec 32 := 0#32
  let v599 : BitVec 1 := Scalar.cmpi .sgt v597 c0_i32_194
  let v600 : BitVec 32 := Scalar.extui v599
  let c0_i32_195 : BitVec 32 := 0#32
  let v601 : BitVec 1 := Scalar.cmpi .slt v597 c0_i32_195
  let v602 : BitVec 32 := Scalar.extui v601
  let v603 : BitVec 32 := Scalar.subi v600 v602
  let c16_i32_193 : BitVec 32 := 16#32
  let c0_i32_196 : BitVec 32 := 0#32
  let v604 : BitVec 1 := Scalar.cmpi .sgt c16_i32_193 c0_i32_196
  let v605 : BitVec 32 := Scalar.extui v604
  let c0_i32_197 : BitVec 32 := 0#32
  let v606 : BitVec 1 := Scalar.cmpi .slt c16_i32_193 c0_i32_197
  let v607 : BitVec 32 := Scalar.extui v606
  let v608 : BitVec 32 := Scalar.subi v605 v607
  let v609 : BitVec 1 := Scalar.cmpi .ne v603 v608
  let v610 : BitVec 32 := Scalar.remsi v597 c16_i32_193
  let c0_i32_198 : BitVec 32 := 0#32
  let v611 : BitVec 1 := Scalar.cmpi .ne v610 c0_i32_198
  let v612 : BitVec 1 := Scalar.andi v609 v611
  let v598 : BitVec 32 := Scalar.divsi v597 c16_i32_193
  let c1_i32_199 : BitVec 32 := 1#32
  let v613 : BitVec 32 := Scalar.subi v598 c1_i32_199
  let v614 : BitVec 32 := Scalar.select v612 v613 v598
  let c16_i32_200 : BitVec 32 := 16#32
  let v615 : BitVec 32 := Scalar.muli v614 c16_i32_200
  let v620 : Index := Scalar.indexCast v615
  let c0_203 : Index := 0#32
  ![v620.toNat, 0]

def k0_chk9 (v595 : BitVec 32) : Prop :=
  (∀ a, (k0_off17 v595) a + S512x128.size a ≤ S4096x128.size a) ∧
  (∀ a, (k0_off18 v595) a + S512x256.size a ≤ S4096x256.size a)
theorem k0_off17_inb : ∀ (v595 : BitVec 32) (k0_hw9 : k0_chk9 v595), ∀ a, (k0_off17 v595) a + S512x128.size a ≤ S4096x128.size a := fun v595 k0_hw9 => k0_hw9.1
theorem k0_off18_inb : ∀ (v595 : BitVec 32) (k0_hw9 : k0_chk9 v595), ∀ a, (k0_off18 v595) a + S512x256.size a ≤ S4096x256.size a := fun v595 k0_hw9 => k0_hw9.2

def k0_off19 (v664 : BitVec 32) : Fin 2 → Nat :=
  let c3584_i32_214 : BitVec 32 := 3584#32
  let v666 : BitVec 32 := Scalar.minsi v664 c3584_i32_214
  let c0_i32_216 : BitVec 32 := 0#32
  let v668 : BitVec 1 := Scalar.cmpi .sgt v666 c0_i32_216
  let v669 : BitVec 32 := Scalar.extui v668
  let c0_i32_217 : BitVec 32 := 0#32
  let v670 : BitVec 1 := Scalar.cmpi .slt v666 c0_i32_217
  let v671 : BitVec 32 := Scalar.extui v670
  let v672 : BitVec 32 := Scalar.subi v669 v671
  let c16_i32_215 : BitVec 32 := 16#32
  let c0_i32_218 : BitVec 32 := 0#32
  let v673 : BitVec 1 := Scalar.cmpi .sgt c16_i32_215 c0_i32_218
  let v674 : BitVec 32 := Scalar.extui v673
  let c0_i32_219 : BitVec 32 := 0#32
  let v675 : BitVec 1 := Scalar.cmpi .slt c16_i32_215 c0_i32_219
  let v676 : BitVec 32 := Scalar.extui v675
  let v677 : BitVec 32 := Scalar.subi v674 v676
  let v678 : BitVec 1 := Scalar.cmpi .ne v672 v677
  let v679 : BitVec 32 := Scalar.remsi v666 c16_i32_215
  let c0_i32_220 : BitVec 32 := 0#32
  let v680 : BitVec 1 := Scalar.cmpi .ne v679 c0_i32_220
  let v681 : BitVec 1 := Scalar.andi v678 v680
  let v667 : BitVec 32 := Scalar.divsi v666 c16_i32_215
  let c1_i32_221 : BitVec 32 := 1#32
  let v682 : BitVec 32 := Scalar.subi v667 c1_i32_221
  let v683 : BitVec 32 := Scalar.select v681 v682 v667
  let c16_i32_222 : BitVec 32 := 16#32
  let v684 : BitVec 32 := Scalar.muli v683 c16_i32_222
  let v685 : Index := Scalar.indexCast v684
  let c0_223 : Index := 0#32
  ![v685.toNat, 0]

def k0_off20 (v664 : BitVec 32) : Fin 2 → Nat :=
  let c3584_i32_214 : BitVec 32 := 3584#32
  let v666 : BitVec 32 := Scalar.minsi v664 c3584_i32_214
  let c0_i32_216 : BitVec 32 := 0#32
  let v668 : BitVec 1 := Scalar.cmpi .sgt v666 c0_i32_216
  let v669 : BitVec 32 := Scalar.extui v668
  let c0_i32_217 : BitVec 32 := 0#32
  let v670 : BitVec 1 := Scalar.cmpi .slt v666 c0_i32_217
  let v671 : BitVec 32 := Scalar.extui v670
  let v672 : BitVec 32 := Scalar.subi v669 v671
  let c16_i32_215 : BitVec 32 := 16#32
  let c0_i32_218 : BitVec 32 := 0#32
  let v673 : BitVec 1 := Scalar.cmpi .sgt c16_i32_215 c0_i32_218
  let v674 : BitVec 32 := Scalar.extui v673
  let c0_i32_219 : BitVec 32 := 0#32
  let v675 : BitVec 1 := Scalar.cmpi .slt c16_i32_215 c0_i32_219
  let v676 : BitVec 32 := Scalar.extui v675
  let v677 : BitVec 32 := Scalar.subi v674 v676
  let v678 : BitVec 1 := Scalar.cmpi .ne v672 v677
  let v679 : BitVec 32 := Scalar.remsi v666 c16_i32_215
  let c0_i32_220 : BitVec 32 := 0#32
  let v680 : BitVec 1 := Scalar.cmpi .ne v679 c0_i32_220
  let v681 : BitVec 1 := Scalar.andi v678 v680
  let v667 : BitVec 32 := Scalar.divsi v666 c16_i32_215
  let c1_i32_221 : BitVec 32 := 1#32
  let v682 : BitVec 32 := Scalar.subi v667 c1_i32_221
  let v683 : BitVec 32 := Scalar.select v681 v682 v667
  let c16_i32_222 : BitVec 32 := 16#32
  let v684 : BitVec 32 := Scalar.muli v683 c16_i32_222
  let v689 : Index := Scalar.indexCast v684
  let c0_225 : Index := 0#32
  ![v689.toNat, 0]

def k0_chk10 (v664 : BitVec 32) : Prop :=
  (∀ a, (k0_off19 v664) a + S512x128.size a ≤ S4096x128.size a) ∧
  (∀ a, (k0_off20 v664) a + S512x256.size a ≤ S4096x256.size a)
theorem k0_off19_inb : ∀ (v664 : BitVec 32) (k0_hw10 : k0_chk10 v664), ∀ a, (k0_off19 v664) a + S512x128.size a ≤ S4096x128.size a := fun v664 k0_hw10 => k0_hw10.1
theorem k0_off20_inb : ∀ (v664 : BitVec 32) (k0_hw10 : k0_chk10 v664), ∀ a, (k0_off20 v664) a + S512x256.size a ≤ S4096x256.size a := fun v664 k0_hw10 => k0_hw10.2

def k0_off21 (v733 : BitVec 32) : Fin 2 → Nat :=
  let c3584_i32_236 : BitVec 32 := 3584#32
  let v735 : BitVec 32 := Scalar.minsi v733 c3584_i32_236
  let c0_i32_238 : BitVec 32 := 0#32
  let v737 : BitVec 1 := Scalar.cmpi .sgt v735 c0_i32_238
  let v738 : BitVec 32 := Scalar.extui v737
  let c0_i32_239 : BitVec 32 := 0#32
  let v739 : BitVec 1 := Scalar.cmpi .slt v735 c0_i32_239
  let v740 : BitVec 32 := Scalar.extui v739
  let v741 : BitVec 32 := Scalar.subi v738 v740
  let c16_i32_237 : BitVec 32 := 16#32
  let c0_i32_240 : BitVec 32 := 0#32
  let v742 : BitVec 1 := Scalar.cmpi .sgt c16_i32_237 c0_i32_240
  let v743 : BitVec 32 := Scalar.extui v742
  let c0_i32_241 : BitVec 32 := 0#32
  let v744 : BitVec 1 := Scalar.cmpi .slt c16_i32_237 c0_i32_241
  let v745 : BitVec 32 := Scalar.extui v744
  let v746 : BitVec 32 := Scalar.subi v743 v745
  let v747 : BitVec 1 := Scalar.cmpi .ne v741 v746
  let v748 : BitVec 32 := Scalar.remsi v735 c16_i32_237
  let c0_i32_242 : BitVec 32 := 0#32
  let v749 : BitVec 1 := Scalar.cmpi .ne v748 c0_i32_242
  let v750 : BitVec 1 := Scalar.andi v747 v749
  let v736 : BitVec 32 := Scalar.divsi v735 c16_i32_237
  let c1_i32_243 : BitVec 32 := 1#32
  let v751 : BitVec 32 := Scalar.subi v736 c1_i32_243
  let v752 : BitVec 32 := Scalar.select v750 v751 v736
  let c16_i32_244 : BitVec 32 := 16#32
  let v753 : BitVec 32 := Scalar.muli v752 c16_i32_244
  let v754 : Index := Scalar.indexCast v753
  let c0_245 : Index := 0#32
  ![v754.toNat, 0]

def k0_off22 (v733 : BitVec 32) : Fin 2 → Nat :=
  let c3584_i32_236 : BitVec 32 := 3584#32
  let v735 : BitVec 32 := Scalar.minsi v733 c3584_i32_236
  let c0_i32_238 : BitVec 32 := 0#32
  let v737 : BitVec 1 := Scalar.cmpi .sgt v735 c0_i32_238
  let v738 : BitVec 32 := Scalar.extui v737
  let c0_i32_239 : BitVec 32 := 0#32
  let v739 : BitVec 1 := Scalar.cmpi .slt v735 c0_i32_239
  let v740 : BitVec 32 := Scalar.extui v739
  let v741 : BitVec 32 := Scalar.subi v738 v740
  let c16_i32_237 : BitVec 32 := 16#32
  let c0_i32_240 : BitVec 32 := 0#32
  let v742 : BitVec 1 := Scalar.cmpi .sgt c16_i32_237 c0_i32_240
  let v743 : BitVec 32 := Scalar.extui v742
  let c0_i32_241 : BitVec 32 := 0#32
  let v744 : BitVec 1 := Scalar.cmpi .slt c16_i32_237 c0_i32_241
  let v745 : BitVec 32 := Scalar.extui v744
  let v746 : BitVec 32 := Scalar.subi v743 v745
  let v747 : BitVec 1 := Scalar.cmpi .ne v741 v746
  let v748 : BitVec 32 := Scalar.remsi v735 c16_i32_237
  let c0_i32_242 : BitVec 32 := 0#32
  let v749 : BitVec 1 := Scalar.cmpi .ne v748 c0_i32_242
  let v750 : BitVec 1 := Scalar.andi v747 v749
  let v736 : BitVec 32 := Scalar.divsi v735 c16_i32_237
  let c1_i32_243 : BitVec 32 := 1#32
  let v751 : BitVec 32 := Scalar.subi v736 c1_i32_243
  let v752 : BitVec 32 := Scalar.select v750 v751 v736
  let c16_i32_244 : BitVec 32 := 16#32
  let v753 : BitVec 32 := Scalar.muli v752 c16_i32_244
  let v758 : Index := Scalar.indexCast v753
  let c0_247 : Index := 0#32
  ![v758.toNat, 0]

def k0_chk11 (v733 : BitVec 32) : Prop :=
  (∀ a, (k0_off21 v733) a + S512x128.size a ≤ S4096x128.size a) ∧
  (∀ a, (k0_off22 v733) a + S512x256.size a ≤ S4096x256.size a)
theorem k0_off21_inb : ∀ (v733 : BitVec 32) (k0_hw11 : k0_chk11 v733), ∀ a, (k0_off21 v733) a + S512x128.size a ≤ S4096x128.size a := fun v733 k0_hw11 => k0_hw11.1
theorem k0_off22_inb : ∀ (v733 : BitVec 32) (k0_hw11 : k0_chk11 v733), ∀ a, (k0_off22 v733) a + S512x256.size a ≤ S4096x256.size a := fun v733 k0_hw11 => k0_hw11.2

def k0_off23 (v802 : BitVec 32) : Fin 2 → Nat :=
  let c3584_i32_258 : BitVec 32 := 3584#32
  let v804 : BitVec 32 := Scalar.minsi v802 c3584_i32_258
  let c0_i32_260 : BitVec 32 := 0#32
  let v806 : BitVec 1 := Scalar.cmpi .sgt v804 c0_i32_260
  let v807 : BitVec 32 := Scalar.extui v806
  let c0_i32_261 : BitVec 32 := 0#32
  let v808 : BitVec 1 := Scalar.cmpi .slt v804 c0_i32_261
  let v809 : BitVec 32 := Scalar.extui v808
  let v810 : BitVec 32 := Scalar.subi v807 v809
  let c16_i32_259 : BitVec 32 := 16#32
  let c0_i32_262 : BitVec 32 := 0#32
  let v811 : BitVec 1 := Scalar.cmpi .sgt c16_i32_259 c0_i32_262
  let v812 : BitVec 32 := Scalar.extui v811
  let c0_i32_263 : BitVec 32 := 0#32
  let v813 : BitVec 1 := Scalar.cmpi .slt c16_i32_259 c0_i32_263
  let v814 : BitVec 32 := Scalar.extui v813
  let v815 : BitVec 32 := Scalar.subi v812 v814
  let v816 : BitVec 1 := Scalar.cmpi .ne v810 v815
  let v817 : BitVec 32 := Scalar.remsi v804 c16_i32_259
  let c0_i32_264 : BitVec 32 := 0#32
  let v818 : BitVec 1 := Scalar.cmpi .ne v817 c0_i32_264
  let v819 : BitVec 1 := Scalar.andi v816 v818
  let v805 : BitVec 32 := Scalar.divsi v804 c16_i32_259
  let c1_i32_265 : BitVec 32 := 1#32
  let v820 : BitVec 32 := Scalar.subi v805 c1_i32_265
  let v821 : BitVec 32 := Scalar.select v819 v820 v805
  let c16_i32_266 : BitVec 32 := 16#32
  let v822 : BitVec 32 := Scalar.muli v821 c16_i32_266
  let v823 : Index := Scalar.indexCast v822
  let c0_267 : Index := 0#32
  ![v823.toNat, 0]

def k0_off24 (v802 : BitVec 32) : Fin 2 → Nat :=
  let c3584_i32_258 : BitVec 32 := 3584#32
  let v804 : BitVec 32 := Scalar.minsi v802 c3584_i32_258
  let c0_i32_260 : BitVec 32 := 0#32
  let v806 : BitVec 1 := Scalar.cmpi .sgt v804 c0_i32_260
  let v807 : BitVec 32 := Scalar.extui v806
  let c0_i32_261 : BitVec 32 := 0#32
  let v808 : BitVec 1 := Scalar.cmpi .slt v804 c0_i32_261
  let v809 : BitVec 32 := Scalar.extui v808
  let v810 : BitVec 32 := Scalar.subi v807 v809
  let c16_i32_259 : BitVec 32 := 16#32
  let c0_i32_262 : BitVec 32 := 0#32
  let v811 : BitVec 1 := Scalar.cmpi .sgt c16_i32_259 c0_i32_262
  let v812 : BitVec 32 := Scalar.extui v811
  let c0_i32_263 : BitVec 32 := 0#32
  let v813 : BitVec 1 := Scalar.cmpi .slt c16_i32_259 c0_i32_263
  let v814 : BitVec 32 := Scalar.extui v813
  let v815 : BitVec 32 := Scalar.subi v812 v814
  let v816 : BitVec 1 := Scalar.cmpi .ne v810 v815
  let v817 : BitVec 32 := Scalar.remsi v804 c16_i32_259
  let c0_i32_264 : BitVec 32 := 0#32
  let v818 : BitVec 1 := Scalar.cmpi .ne v817 c0_i32_264
  let v819 : BitVec 1 := Scalar.andi v816 v818
  let v805 : BitVec 32 := Scalar.divsi v804 c16_i32_259
  let c1_i32_265 : BitVec 32 := 1#32
  let v820 : BitVec 32 := Scalar.subi v805 c1_i32_265
  let v821 : BitVec 32 := Scalar.select v819 v820 v805
  let c16_i32_266 : BitVec 32 := 16#32
  let v822 : BitVec 32 := Scalar.muli v821 c16_i32_266
  let v827 : Index := Scalar.indexCast v822
  let c0_269 : Index := 0#32
  ![v827.toNat, 0]

def k0_chk12 (v802 : BitVec 32) : Prop :=
  (∀ a, (k0_off23 v802) a + S512x128.size a ≤ S4096x128.size a) ∧
  (∀ a, (k0_off24 v802) a + S512x256.size a ≤ S4096x256.size a)
theorem k0_off23_inb : ∀ (v802 : BitVec 32) (k0_hw12 : k0_chk12 v802), ∀ a, (k0_off23 v802) a + S512x128.size a ≤ S4096x128.size a := fun v802 k0_hw12 => k0_hw12.1
theorem k0_off24_inb : ∀ (v802 : BitVec 32) (k0_hw12 : k0_chk12 v802), ∀ a, (k0_off24 v802) a + S512x256.size a ≤ S4096x256.size a := fun v802 k0_hw12 => k0_hw12.2

def k0_off25 (v871 : BitVec 32) : Fin 2 → Nat :=
  let c3584_i32_280 : BitVec 32 := 3584#32
  let v873 : BitVec 32 := Scalar.minsi v871 c3584_i32_280
  let c0_i32_282 : BitVec 32 := 0#32
  let v875 : BitVec 1 := Scalar.cmpi .sgt v873 c0_i32_282
  let v876 : BitVec 32 := Scalar.extui v875
  let c0_i32_283 : BitVec 32 := 0#32
  let v877 : BitVec 1 := Scalar.cmpi .slt v873 c0_i32_283
  let v878 : BitVec 32 := Scalar.extui v877
  let v879 : BitVec 32 := Scalar.subi v876 v878
  let c16_i32_281 : BitVec 32 := 16#32
  let c0_i32_284 : BitVec 32 := 0#32
  let v880 : BitVec 1 := Scalar.cmpi .sgt c16_i32_281 c0_i32_284
  let v881 : BitVec 32 := Scalar.extui v880
  let c0_i32_285 : BitVec 32 := 0#32
  let v882 : BitVec 1 := Scalar.cmpi .slt c16_i32_281 c0_i32_285
  let v883 : BitVec 32 := Scalar.extui v882
  let v884 : BitVec 32 := Scalar.subi v881 v883
  let v885 : BitVec 1 := Scalar.cmpi .ne v879 v884
  let v886 : BitVec 32 := Scalar.remsi v873 c16_i32_281
  let c0_i32_286 : BitVec 32 := 0#32
  let v887 : BitVec 1 := Scalar.cmpi .ne v886 c0_i32_286
  let v888 : BitVec 1 := Scalar.andi v885 v887
  let v874 : BitVec 32 := Scalar.divsi v873 c16_i32_281
  let c1_i32_287 : BitVec 32 := 1#32
  let v889 : BitVec 32 := Scalar.subi v874 c1_i32_287
  let v890 : BitVec 32 := Scalar.select v888 v889 v874
  let c16_i32_288 : BitVec 32 := 16#32
  let v891 : BitVec 32 := Scalar.muli v890 c16_i32_288
  let v892 : Index := Scalar.indexCast v891
  let c0_289 : Index := 0#32
  ![v892.toNat, 0]

def k0_off26 (v871 : BitVec 32) : Fin 2 → Nat :=
  let c3584_i32_280 : BitVec 32 := 3584#32
  let v873 : BitVec 32 := Scalar.minsi v871 c3584_i32_280
  let c0_i32_282 : BitVec 32 := 0#32
  let v875 : BitVec 1 := Scalar.cmpi .sgt v873 c0_i32_282
  let v876 : BitVec 32 := Scalar.extui v875
  let c0_i32_283 : BitVec 32 := 0#32
  let v877 : BitVec 1 := Scalar.cmpi .slt v873 c0_i32_283
  let v878 : BitVec 32 := Scalar.extui v877
  let v879 : BitVec 32 := Scalar.subi v876 v878
  let c16_i32_281 : BitVec 32 := 16#32
  let c0_i32_284 : BitVec 32 := 0#32
  let v880 : BitVec 1 := Scalar.cmpi .sgt c16_i32_281 c0_i32_284
  let v881 : BitVec 32 := Scalar.extui v880
  let c0_i32_285 : BitVec 32 := 0#32
  let v882 : BitVec 1 := Scalar.cmpi .slt c16_i32_281 c0_i32_285
  let v883 : BitVec 32 := Scalar.extui v882
  let v884 : BitVec 32 := Scalar.subi v881 v883
  let v885 : BitVec 1 := Scalar.cmpi .ne v879 v884
  let v886 : BitVec 32 := Scalar.remsi v873 c16_i32_281
  let c0_i32_286 : BitVec 32 := 0#32
  let v887 : BitVec 1 := Scalar.cmpi .ne v886 c0_i32_286
  let v888 : BitVec 1 := Scalar.andi v885 v887
  let v874 : BitVec 32 := Scalar.divsi v873 c16_i32_281
  let c1_i32_287 : BitVec 32 := 1#32
  let v889 : BitVec 32 := Scalar.subi v874 c1_i32_287
  let v890 : BitVec 32 := Scalar.select v888 v889 v874
  let c16_i32_288 : BitVec 32 := 16#32
  let v891 : BitVec 32 := Scalar.muli v890 c16_i32_288
  let v896 : Index := Scalar.indexCast v891
  let c0_291 : Index := 0#32
  ![v896.toNat, 0]

def k0_chk13 (v871 : BitVec 32) : Prop :=
  (∀ a, (k0_off25 v871) a + S512x128.size a ≤ S4096x128.size a) ∧
  (∀ a, (k0_off26 v871) a + S512x256.size a ≤ S4096x256.size a)
theorem k0_off25_inb : ∀ (v871 : BitVec 32) (k0_hw13 : k0_chk13 v871), ∀ a, (k0_off25 v871) a + S512x128.size a ≤ S4096x128.size a := fun v871 k0_hw13 => k0_hw13.1
theorem k0_off26_inb : ∀ (v871 : BitVec 32) (k0_hw13 : k0_chk13 v871), ∀ a, (k0_off26 v871) a + S512x256.size a ≤ S4096x256.size a := fun v871 k0_hw13 => k0_hw13.2

def k0_off27 (v940 : BitVec 32) : Fin 2 → Nat :=
  let c3584_i32_302 : BitVec 32 := 3584#32
  let v942 : BitVec 32 := Scalar.minsi v940 c3584_i32_302
  let c0_i32_304 : BitVec 32 := 0#32
  let v944 : BitVec 1 := Scalar.cmpi .sgt v942 c0_i32_304
  let v945 : BitVec 32 := Scalar.extui v944
  let c0_i32_305 : BitVec 32 := 0#32
  let v946 : BitVec 1 := Scalar.cmpi .slt v942 c0_i32_305
  let v947 : BitVec 32 := Scalar.extui v946
  let v948 : BitVec 32 := Scalar.subi v945 v947
  let c16_i32_303 : BitVec 32 := 16#32
  let c0_i32_306 : BitVec 32 := 0#32
  let v949 : BitVec 1 := Scalar.cmpi .sgt c16_i32_303 c0_i32_306
  let v950 : BitVec 32 := Scalar.extui v949
  let c0_i32_307 : BitVec 32 := 0#32
  let v951 : BitVec 1 := Scalar.cmpi .slt c16_i32_303 c0_i32_307
  let v952 : BitVec 32 := Scalar.extui v951
  let v953 : BitVec 32 := Scalar.subi v950 v952
  let v954 : BitVec 1 := Scalar.cmpi .ne v948 v953
  let v955 : BitVec 32 := Scalar.remsi v942 c16_i32_303
  let c0_i32_308 : BitVec 32 := 0#32
  let v956 : BitVec 1 := Scalar.cmpi .ne v955 c0_i32_308
  let v957 : BitVec 1 := Scalar.andi v954 v956
  let v943 : BitVec 32 := Scalar.divsi v942 c16_i32_303
  let c1_i32_309 : BitVec 32 := 1#32
  let v958 : BitVec 32 := Scalar.subi v943 c1_i32_309
  let v959 : BitVec 32 := Scalar.select v957 v958 v943
  let c16_i32_310 : BitVec 32 := 16#32
  let v960 : BitVec 32 := Scalar.muli v959 c16_i32_310
  let v961 : Index := Scalar.indexCast v960
  let c0_311 : Index := 0#32
  ![v961.toNat, 0]

def k0_off28 (v940 : BitVec 32) : Fin 2 → Nat :=
  let c3584_i32_302 : BitVec 32 := 3584#32
  let v942 : BitVec 32 := Scalar.minsi v940 c3584_i32_302
  let c0_i32_304 : BitVec 32 := 0#32
  let v944 : BitVec 1 := Scalar.cmpi .sgt v942 c0_i32_304
  let v945 : BitVec 32 := Scalar.extui v944
  let c0_i32_305 : BitVec 32 := 0#32
  let v946 : BitVec 1 := Scalar.cmpi .slt v942 c0_i32_305
  let v947 : BitVec 32 := Scalar.extui v946
  let v948 : BitVec 32 := Scalar.subi v945 v947
  let c16_i32_303 : BitVec 32 := 16#32
  let c0_i32_306 : BitVec 32 := 0#32
  let v949 : BitVec 1 := Scalar.cmpi .sgt c16_i32_303 c0_i32_306
  let v950 : BitVec 32 := Scalar.extui v949
  let c0_i32_307 : BitVec 32 := 0#32
  let v951 : BitVec 1 := Scalar.cmpi .slt c16_i32_303 c0_i32_307
  let v952 : BitVec 32 := Scalar.extui v951
  let v953 : BitVec 32 := Scalar.subi v950 v952
  let v954 : BitVec 1 := Scalar.cmpi .ne v948 v953
  let v955 : BitVec 32 := Scalar.remsi v942 c16_i32_303
  let c0_i32_308 : BitVec 32 := 0#32
  let v956 : BitVec 1 := Scalar.cmpi .ne v955 c0_i32_308
  let v957 : BitVec 1 := Scalar.andi v954 v956
  let v943 : BitVec 32 := Scalar.divsi v942 c16_i32_303
  let c1_i32_309 : BitVec 32 := 1#32
  let v958 : BitVec 32 := Scalar.subi v943 c1_i32_309
  let v959 : BitVec 32 := Scalar.select v957 v958 v943
  let c16_i32_310 : BitVec 32 := 16#32
  let v960 : BitVec 32 := Scalar.muli v959 c16_i32_310
  let v965 : Index := Scalar.indexCast v960
  let c0_313 : Index := 0#32
  ![v965.toNat, 0]

def k0_chk14 (v940 : BitVec 32) : Prop :=
  (∀ a, (k0_off27 v940) a + S512x128.size a ≤ S4096x128.size a) ∧
  (∀ a, (k0_off28 v940) a + S512x256.size a ≤ S4096x256.size a)
theorem k0_off27_inb : ∀ (v940 : BitVec 32) (k0_hw14 : k0_chk14 v940), ∀ a, (k0_off27 v940) a + S512x128.size a ≤ S4096x128.size a := fun v940 k0_hw14 => k0_hw14.1
theorem k0_off28_inb : ∀ (v940 : BitVec 32) (k0_hw14 : k0_chk14 v940), ∀ a, (k0_off28 v940) a + S512x256.size a ≤ S4096x256.size a := fun v940 k0_hw14 => k0_hw14.2

def k0_off29 (v1009 : BitVec 32) : Fin 2 → Nat :=
  let c3584_i32_324 : BitVec 32 := 3584#32
  let v1011 : BitVec 32 := Scalar.minsi v1009 c3584_i32_324
  let c0_i32_326 : BitVec 32 := 0#32
  let v1013 : BitVec 1 := Scalar.cmpi .sgt v1011 c0_i32_326
  let v1014 : BitVec 32 := Scalar.extui v1013
  let c0_i32_327 : BitVec 32 := 0#32
  let v1015 : BitVec 1 := Scalar.cmpi .slt v1011 c0_i32_327
  let v1016 : BitVec 32 := Scalar.extui v1015
  let v1017 : BitVec 32 := Scalar.subi v1014 v1016
  let c16_i32_325 : BitVec 32 := 16#32
  let c0_i32_328 : BitVec 32 := 0#32
  let v1018 : BitVec 1 := Scalar.cmpi .sgt c16_i32_325 c0_i32_328
  let v1019 : BitVec 32 := Scalar.extui v1018
  let c0_i32_329 : BitVec 32 := 0#32
  let v1020 : BitVec 1 := Scalar.cmpi .slt c16_i32_325 c0_i32_329
  let v1021 : BitVec 32 := Scalar.extui v1020
  let v1022 : BitVec 32 := Scalar.subi v1019 v1021
  let v1023 : BitVec 1 := Scalar.cmpi .ne v1017 v1022
  let v1024 : BitVec 32 := Scalar.remsi v1011 c16_i32_325
  let c0_i32_330 : BitVec 32 := 0#32
  let v1025 : BitVec 1 := Scalar.cmpi .ne v1024 c0_i32_330
  let v1026 : BitVec 1 := Scalar.andi v1023 v1025
  let v1012 : BitVec 32 := Scalar.divsi v1011 c16_i32_325
  let c1_i32_331 : BitVec 32 := 1#32
  let v1027 : BitVec 32 := Scalar.subi v1012 c1_i32_331
  let v1028 : BitVec 32 := Scalar.select v1026 v1027 v1012
  let c16_i32_332 : BitVec 32 := 16#32
  let v1029 : BitVec 32 := Scalar.muli v1028 c16_i32_332
  let v1030 : Index := Scalar.indexCast v1029
  let c0_333 : Index := 0#32
  ![v1030.toNat, 0]

def k0_off30 (v1009 : BitVec 32) : Fin 2 → Nat :=
  let c3584_i32_324 : BitVec 32 := 3584#32
  let v1011 : BitVec 32 := Scalar.minsi v1009 c3584_i32_324
  let c0_i32_326 : BitVec 32 := 0#32
  let v1013 : BitVec 1 := Scalar.cmpi .sgt v1011 c0_i32_326
  let v1014 : BitVec 32 := Scalar.extui v1013
  let c0_i32_327 : BitVec 32 := 0#32
  let v1015 : BitVec 1 := Scalar.cmpi .slt v1011 c0_i32_327
  let v1016 : BitVec 32 := Scalar.extui v1015
  let v1017 : BitVec 32 := Scalar.subi v1014 v1016
  let c16_i32_325 : BitVec 32 := 16#32
  let c0_i32_328 : BitVec 32 := 0#32
  let v1018 : BitVec 1 := Scalar.cmpi .sgt c16_i32_325 c0_i32_328
  let v1019 : BitVec 32 := Scalar.extui v1018
  let c0_i32_329 : BitVec 32 := 0#32
  let v1020 : BitVec 1 := Scalar.cmpi .slt c16_i32_325 c0_i32_329
  let v1021 : BitVec 32 := Scalar.extui v1020
  let v1022 : BitVec 32 := Scalar.subi v1019 v1021
  let v1023 : BitVec 1 := Scalar.cmpi .ne v1017 v1022
  let v1024 : BitVec 32 := Scalar.remsi v1011 c16_i32_325
  let c0_i32_330 : BitVec 32 := 0#32
  let v1025 : BitVec 1 := Scalar.cmpi .ne v1024 c0_i32_330
  let v1026 : BitVec 1 := Scalar.andi v1023 v1025
  let v1012 : BitVec 32 := Scalar.divsi v1011 c16_i32_325
  let c1_i32_331 : BitVec 32 := 1#32
  let v1027 : BitVec 32 := Scalar.subi v1012 c1_i32_331
  let v1028 : BitVec 32 := Scalar.select v1026 v1027 v1012
  let c16_i32_332 : BitVec 32 := 16#32
  let v1029 : BitVec 32 := Scalar.muli v1028 c16_i32_332
  let v1034 : Index := Scalar.indexCast v1029
  let c0_335 : Index := 0#32
  ![v1034.toNat, 0]

def k0_chk15 (v1009 : BitVec 32) : Prop :=
  (∀ a, (k0_off29 v1009) a + S512x128.size a ≤ S4096x128.size a) ∧
  (∀ a, (k0_off30 v1009) a + S512x256.size a ≤ S4096x256.size a)
theorem k0_off29_inb : ∀ (v1009 : BitVec 32) (k0_hw15 : k0_chk15 v1009), ∀ a, (k0_off29 v1009) a + S512x128.size a ≤ S4096x128.size a := fun v1009 k0_hw15 => k0_hw15.1
theorem k0_off30_inb : ∀ (v1009 : BitVec 32) (k0_hw15 : k0_chk15 v1009), ∀ a, (k0_off30 v1009) a + S512x256.size a ≤ S4096x256.size a := fun v1009 k0_hw15 => k0_hw15.2

def k0_off31 (v1078 : BitVec 32) : Fin 2 → Nat :=
  let c3584_i32_346 : BitVec 32 := 3584#32
  let v1080 : BitVec 32 := Scalar.minsi v1078 c3584_i32_346
  let c0_i32_348 : BitVec 32 := 0#32
  let v1082 : BitVec 1 := Scalar.cmpi .sgt v1080 c0_i32_348
  let v1083 : BitVec 32 := Scalar.extui v1082
  let c0_i32_349 : BitVec 32 := 0#32
  let v1084 : BitVec 1 := Scalar.cmpi .slt v1080 c0_i32_349
  let v1085 : BitVec 32 := Scalar.extui v1084
  let v1086 : BitVec 32 := Scalar.subi v1083 v1085
  let c16_i32_347 : BitVec 32 := 16#32
  let c0_i32_350 : BitVec 32 := 0#32
  let v1087 : BitVec 1 := Scalar.cmpi .sgt c16_i32_347 c0_i32_350
  let v1088 : BitVec 32 := Scalar.extui v1087
  let c0_i32_351 : BitVec 32 := 0#32
  let v1089 : BitVec 1 := Scalar.cmpi .slt c16_i32_347 c0_i32_351
  let v1090 : BitVec 32 := Scalar.extui v1089
  let v1091 : BitVec 32 := Scalar.subi v1088 v1090
  let v1092 : BitVec 1 := Scalar.cmpi .ne v1086 v1091
  let v1093 : BitVec 32 := Scalar.remsi v1080 c16_i32_347
  let c0_i32_352 : BitVec 32 := 0#32
  let v1094 : BitVec 1 := Scalar.cmpi .ne v1093 c0_i32_352
  let v1095 : BitVec 1 := Scalar.andi v1092 v1094
  let v1081 : BitVec 32 := Scalar.divsi v1080 c16_i32_347
  let c1_i32_353 : BitVec 32 := 1#32
  let v1096 : BitVec 32 := Scalar.subi v1081 c1_i32_353
  let v1097 : BitVec 32 := Scalar.select v1095 v1096 v1081
  let c16_i32_354 : BitVec 32 := 16#32
  let v1098 : BitVec 32 := Scalar.muli v1097 c16_i32_354
  let v1099 : Index := Scalar.indexCast v1098
  let c0_355 : Index := 0#32
  ![v1099.toNat, 0]

def k0_off32 (v1078 : BitVec 32) : Fin 2 → Nat :=
  let c3584_i32_346 : BitVec 32 := 3584#32
  let v1080 : BitVec 32 := Scalar.minsi v1078 c3584_i32_346
  let c0_i32_348 : BitVec 32 := 0#32
  let v1082 : BitVec 1 := Scalar.cmpi .sgt v1080 c0_i32_348
  let v1083 : BitVec 32 := Scalar.extui v1082
  let c0_i32_349 : BitVec 32 := 0#32
  let v1084 : BitVec 1 := Scalar.cmpi .slt v1080 c0_i32_349
  let v1085 : BitVec 32 := Scalar.extui v1084
  let v1086 : BitVec 32 := Scalar.subi v1083 v1085
  let c16_i32_347 : BitVec 32 := 16#32
  let c0_i32_350 : BitVec 32 := 0#32
  let v1087 : BitVec 1 := Scalar.cmpi .sgt c16_i32_347 c0_i32_350
  let v1088 : BitVec 32 := Scalar.extui v1087
  let c0_i32_351 : BitVec 32 := 0#32
  let v1089 : BitVec 1 := Scalar.cmpi .slt c16_i32_347 c0_i32_351
  let v1090 : BitVec 32 := Scalar.extui v1089
  let v1091 : BitVec 32 := Scalar.subi v1088 v1090
  let v1092 : BitVec 1 := Scalar.cmpi .ne v1086 v1091
  let v1093 : BitVec 32 := Scalar.remsi v1080 c16_i32_347
  let c0_i32_352 : BitVec 32 := 0#32
  let v1094 : BitVec 1 := Scalar.cmpi .ne v1093 c0_i32_352
  let v1095 : BitVec 1 := Scalar.andi v1092 v1094
  let v1081 : BitVec 32 := Scalar.divsi v1080 c16_i32_347
  let c1_i32_353 : BitVec 32 := 1#32
  let v1096 : BitVec 32 := Scalar.subi v1081 c1_i32_353
  let v1097 : BitVec 32 := Scalar.select v1095 v1096 v1081
  let c16_i32_354 : BitVec 32 := 16#32
  let v1098 : BitVec 32 := Scalar.muli v1097 c16_i32_354
  let v1103 : Index := Scalar.indexCast v1098
  let c0_357 : Index := 0#32
  ![v1103.toNat, 0]

def k0_chk16 (v1078 : BitVec 32) : Prop :=
  (∀ a, (k0_off31 v1078) a + S512x128.size a ≤ S4096x128.size a) ∧
  (∀ a, (k0_off32 v1078) a + S512x256.size a ≤ S4096x256.size a)
theorem k0_off31_inb : ∀ (v1078 : BitVec 32) (k0_hw16 : k0_chk16 v1078), ∀ a, (k0_off31 v1078) a + S512x128.size a ≤ S4096x128.size a := fun v1078 k0_hw16 => k0_hw16.1
theorem k0_off32_inb : ∀ (v1078 : BitVec 32) (k0_hw16 : k0_chk16 v1078), ∀ a, (k0_off32 v1078) a + S512x256.size a ≤ S4096x256.size a := fun v1078 k0_hw16 => k0_hw16.2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S4096x128 : Shape := ⟨2, ![4096, 128]⟩
abbrev S17 : Shape := ⟨1, ![17]⟩
abbrev S128x128 : Shape := ⟨2, ![128, 128]⟩
abbrev S128 : Shape := ⟨1, ![128]⟩
abbrev S1x128 : Shape := ⟨2, ![1, 128]⟩
abbrev S4096 : Shape := ⟨1, ![4096]⟩
abbrev S1x17 : Shape := ⟨2, ![1, 17]⟩
abbrev S4096x1 : Shape := ⟨2, ![4096, 1]⟩
abbrev S4096x17 : Shape := ⟨2, ![4096, 17]⟩
abbrev S_ : Shape := ⟨0, ![]⟩
abbrev S16x512x128 : Shape := ⟨3, ![16, 512, 128]⟩
abbrev S4096x2 : Shape := ⟨2, ![4096, 2]⟩
abbrev S16x512x512 : Shape := ⟨3, ![16, 512, 512]⟩
abbrev S512 : Shape := ⟨1, ![512]⟩
abbrev S512x1 : Shape := ⟨2, ![512, 1]⟩
abbrev S512x2 : Shape := ⟨2, ![512, 2]⟩
abbrev S16x512 : Shape := ⟨2, ![16, 512]⟩
abbrev S16x512x1 : Shape := ⟨3, ![16, 512, 1]⟩

abbrev nBuf : Space → Nat
  | .hbm => 201
  | .vmem => 0
  | .smem => 0
  | _ => 0

abbrev hbmTy0_0 (i : Nat) : BufTy := match i % 128 with
  | 0 => ⟨S4096x128, .f32⟩
  | 1 => ⟨S17, .i32⟩
  | 2 => ⟨S128x128, .f32⟩
  | 3 => ⟨S128x128, .f32⟩
  | 4 => ⟨S128x128, .f32⟩
  | 5 => ⟨S128, .f32⟩
  | 6 => ⟨S128, .f32⟩
  | 7 => ⟨S128, .f32⟩
  | 8 => ⟨S4096x128, .f32⟩
  | 9 => ⟨S1x128, .f32⟩
  | 10 => ⟨S4096x128, .f32⟩
  | 11 => ⟨S4096x128, .f32⟩
  | 12 => ⟨S4096x128, .f32⟩
  | 13 => ⟨S1x128, .f32⟩
  | 14 => ⟨S4096x128, .f32⟩
  | 15 => ⟨S4096x128, .f32⟩
  | 16 => ⟨S4096x128, .f32⟩
  | 17 => ⟨S1x128, .f32⟩
  | 18 => ⟨S4096x128, .f32⟩
  | 19 => ⟨S4096x128, .f32⟩
  | 20 => ⟨S4096, .i32⟩
  | 21 => ⟨S1x17, .i32⟩
  | 22 => ⟨S4096x1, .i32⟩
  | 23 => ⟨S4096x17, .i32⟩
  | 24 => ⟨S4096x17, .i32⟩
  | 25 => ⟨S4096x17, .i1⟩
  | 26 => ⟨S4096x17, .i32⟩
  | 27 => ⟨S_, .i32⟩
  | 28 => ⟨S4096, .i32⟩
  | 29 => ⟨S_, .i32⟩
  | 30 => ⟨S4096, .i32⟩
  | 31 => ⟨S4096, .i32⟩
  | 32 => ⟨S_, .i32⟩
  | 33 => ⟨S4096, .i32⟩
  | 34 => ⟨S4096, .i1⟩
  | 35 => ⟨S_, .i32⟩
  | 36 => ⟨S4096, .i32⟩
  | 37 => ⟨S4096, .i32⟩
  | 38 => ⟨S4096, .i32⟩
  | 39 => ⟨S4096x1, .i32⟩
  | 40 => ⟨S4096, .i32⟩
  | 41 => ⟨S4096, .i32⟩
  | 42 => ⟨S_, .f32⟩
  | 43 => ⟨S16x512x128, .f32⟩
  | 44 => ⟨S_, .i32⟩
  | 45 => ⟨S4096, .i32⟩
  | 46 => ⟨S4096, .i1⟩
  | 47 => ⟨S_, .i32⟩
  | 48 => ⟨S4096, .i32⟩
  | 49 => ⟨S4096, .i32⟩
  | 50 => ⟨S4096, .i32⟩
  | 51 => ⟨S_, .i32⟩
  | 52 => ⟨S4096, .i32⟩
  | 53 => ⟨S4096, .i1⟩
  | 54 => ⟨S_, .i32⟩
  | 55 => ⟨S4096, .i32⟩
  | 56 => ⟨S4096, .i32⟩
  | 57 => ⟨S4096, .i32⟩
  | 58 => ⟨S4096x1, .i32⟩
  | 59 => ⟨S4096x1, .i32⟩
  | 60 => ⟨S4096x2, .i32⟩
  | 61 => ⟨S16x512x128, .f32⟩
  | 62 => ⟨S_, .f32⟩
  | 63 => ⟨S16x512x128, .f32⟩
  | 64 => ⟨S_, .i32⟩
  | 65 => ⟨S4096, .i32⟩
  | 66 => ⟨S4096, .i1⟩
  | 67 => ⟨S_, .i32⟩
  | 68 => ⟨S4096, .i32⟩
  | 69 => ⟨S4096, .i32⟩
  | 70 => ⟨S4096, .i32⟩
  | 71 => ⟨S_, .i32⟩
  | 72 => ⟨S4096, .i32⟩
  | 73 => ⟨S4096, .i1⟩
  | 74 => ⟨S_, .i32⟩
  | 75 => ⟨S4096, .i32⟩
  | 76 => ⟨S4096, .i32⟩
  | 77 => ⟨S4096, .i32⟩
  | 78 => ⟨S4096x1, .i32⟩
  | 79 => ⟨S4096x1, .i32⟩
  | 80 => ⟨S4096x2, .i32⟩
  | 81 => ⟨S16x512x128, .f32⟩
  | 82 => ⟨S_, .f32⟩
  | 83 => ⟨S16x512x128, .f32⟩
  | 84 => ⟨S_, .i32⟩
  | 85 => ⟨S4096, .i32⟩
  | 86 => ⟨S4096, .i1⟩
  | 87 => ⟨S_, .i32⟩
  | 88 => ⟨S4096, .i32⟩
  | 89 => ⟨S4096, .i32⟩
  | 90 => ⟨S4096, .i32⟩
  | 91 => ⟨S_, .i32⟩
  | 92 => ⟨S4096, .i32⟩
  | 93 => ⟨S4096, .i1⟩
  | 94 => ⟨S_, .i32⟩
  | 95 => ⟨S4096, .i32⟩
  | 96 => ⟨S4096, .i32⟩
  | 97 => ⟨S4096, .i32⟩
  | 98 => ⟨S4096x1, .i32⟩
  | 99 => ⟨S4096x1, .i32⟩
  | 100 => ⟨S4096x2, .i32⟩
  | 101 => ⟨S16x512x128, .f32⟩
  | 102 => ⟨S16x512x128, .f32⟩
  | 103 => ⟨S_, .f32⟩
  | 104 => ⟨S16x512x128, .f32⟩
  | 105 => ⟨S16x512x128, .i1⟩
  | 106 => ⟨S16x512x128, .i1⟩
  | 107 => ⟨S16x512x128, .f32⟩
  | 108 => ⟨S_, .f32⟩
  | 109 => ⟨S16x512x128, .f32⟩
  | 110 => ⟨S16x512x128, .i1⟩
  | 111 => ⟨S16x512x128, .i1⟩
  | 112 => ⟨S_, .f32⟩
  | 113 => ⟨S_, .f32⟩
  | 114 => ⟨S16x512x128, .f32⟩
  | 115 => ⟨S16x512x128, .f32⟩
  | 116 => ⟨S_, .f32⟩
  | 117 => ⟨S_, .f32⟩
  | 118 => ⟨S16x512x128, .f32⟩
  | 119 => ⟨S16x512x128, .f32⟩
  | 120 => ⟨S16x512x128, .f32⟩
  | 121 => ⟨S16x512x128, .f32⟩
  | 122 => ⟨S16x512x512, .f32⟩
  | 123 => ⟨S_, .f32⟩
  | 124 => ⟨S16x512x512, .f32⟩
  | 125 => ⟨S16x512x512, .i1⟩
  | 126 => ⟨S16x512x512, .f32⟩
  | 127 => ⟨S_, .f32⟩
  | _ => ⟨S4096x128, .f32⟩

abbrev hbmTy0_1 (i : Nat) : BufTy := match i % 128 with
  | 0 => ⟨S_, .f32⟩
  | 1 => ⟨S16x512x512, .f32⟩
  | 2 => ⟨S16x512x512, .f32⟩
  | 3 => ⟨S512, .i32⟩
  | 4 => ⟨S_, .i32⟩
  | 5 => ⟨S512, .i32⟩
  | 6 => ⟨S512, .i1⟩
  | 7 => ⟨S_, .i32⟩
  | 8 => ⟨S512, .i32⟩
  | 9 => ⟨S512, .i32⟩
  | 10 => ⟨S512, .i32⟩
  | 11 => ⟨S_, .i32⟩
  | 12 => ⟨S512, .i32⟩
  | 13 => ⟨S512, .i1⟩
  | 14 => ⟨S_, .i32⟩
  | 15 => ⟨S512, .i32⟩
  | 16 => ⟨S512, .i32⟩
  | 17 => ⟨S512, .i32⟩
  | 18 => ⟨S512x1, .i32⟩
  | 19 => ⟨S512x1, .i32⟩
  | 20 => ⟨S512x2, .i32⟩
  | 21 => ⟨S_, .f32⟩
  | 22 => ⟨S16x512, .f32⟩
  | 23 => ⟨S16x512x512, .f32⟩
  | 24 => ⟨S_, .f32⟩
  | 25 => ⟨S16x512x512, .f32⟩
  | 26 => ⟨S16x512x512, .i1⟩
  | 27 => ⟨S_, .i1⟩
  | 28 => ⟨S16x512, .i1⟩
  | 29 => ⟨S16x512x1, .i1⟩
  | 30 => ⟨S_, .f32⟩
  | 31 => ⟨S_, .f32⟩
  | 32 => ⟨S16x512x512, .i1⟩
  | 33 => ⟨S16x512x512, .f32⟩
  | 34 => ⟨S16x512x512, .f32⟩
  | 35 => ⟨S_, .f32⟩
  | 36 => ⟨S16x512, .f32⟩
  | 37 => ⟨S_, .f32⟩
  | 38 => ⟨S16x512, .f32⟩
  | 39 => ⟨S16x512, .f32⟩
  | 40 => ⟨S16x512x1, .f32⟩
  | 41 => ⟨S16x512x512, .f32⟩
  | 42 => ⟨S16x512x512, .f32⟩
  | 43 => ⟨S16x512x512, .f32⟩
  | 44 => ⟨S_, .f32⟩
  | 45 => ⟨S16x512, .f32⟩
  | 46 => ⟨S16x512x1, .f32⟩
  | 47 => ⟨S16x512x512, .f32⟩
  | 48 => ⟨S16x512x512, .f32⟩
  | 49 => ⟨S_, .f32⟩
  | 50 => ⟨S_, .f32⟩
  | 51 => ⟨S16x512x512, .i1⟩
  | 52 => ⟨S16x512x512, .f32⟩
  | 53 => ⟨S16x512x512, .f32⟩
  | 54 => ⟨S16x512x128, .f32⟩
  | 55 => ⟨S_, .i32⟩
  | 56 => ⟨S4096, .i32⟩
  | 57 => ⟨S4096, .i1⟩
  | 58 => ⟨S_, .i32⟩
  | 59 => ⟨S4096, .i32⟩
  | 60 => ⟨S4096, .i32⟩
  | 61 => ⟨S4096, .i32⟩
  | 62 => ⟨S_, .i32⟩
  | 63 => ⟨S4096, .i32⟩
  | 64 => ⟨S4096, .i1⟩
  | 65 => ⟨S_, .i32⟩
  | 66 => ⟨S4096, .i32⟩
  | 67 => ⟨S4096, .i32⟩
  | 68 => ⟨S4096, .i32⟩
  | 69 => ⟨S4096x1, .i32⟩
  | 70 => ⟨S4096x1, .i32⟩
  | 71 => ⟨S4096x2, .i32⟩
  | 72 => ⟨S4096x128, .f32⟩
  | _ => ⟨S4096x128, .f32⟩

abbrev hbmTy (i : Nat) : BufTy := match i / 128 with
  | 0 => hbmTy0_0 i
  | 1 => hbmTy0_1 i
  | _ => ⟨S4096x128, .f32⟩

abbrev bufTy : (tb : Table) → Fin (tcTables nBuf tb) → BufTy
  | .hbm, ⟨i, _⟩ => hbmTy i
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_v19 : Ref sig .tc := ⟨.hbm, 28, rfl⟩
abbrev main_c_0 : Ref sig .tc := ⟨.hbm, 29, rfl⟩
abbrev main_v20 : Ref sig .tc := ⟨.hbm, 30, rfl⟩
abbrev main_v21 : Ref sig .tc := ⟨.hbm, 31, rfl⟩
abbrev main_c_1 : Ref sig .tc := ⟨.hbm, 32, rfl⟩
abbrev main_v22 : Ref sig .tc := ⟨.hbm, 33, rfl⟩
abbrev main_v23 : Ref sig .tc := ⟨.hbm, 34, rfl⟩
abbrev main_c_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst : Ref sig .tc := ⟨.hbm, 42, rfl⟩
abbrev main_v30 : Ref sig .tc := ⟨.hbm, 43, rfl⟩
abbrev main_c_3 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_5 : Ref sig .tc := ⟨.hbm, 51, rfl⟩
abbrev main_v36 : Ref sig .tc := ⟨.hbm, 52, rfl⟩
abbrev main_v37 : Ref sig .tc := ⟨.hbm, 53, rfl⟩
abbrev main_c_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_c_8 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_c_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_c_13 : Ref sig .tc := ⟨.hbm, 84, rfl⟩
abbrev main_v61 : Ref sig .tc := ⟨.hbm, 85, rfl⟩
abbrev main_v62 : Ref sig .tc := ⟨.hbm, 86, rfl⟩
abbrev main_c_14 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_15 : Ref sig .tc := ⟨.hbm, 91, rfl⟩
abbrev main_v66 : Ref sig .tc := ⟨.hbm, 92, rfl⟩
abbrev main_v67 : Ref sig .tc := ⟨.hbm, 93, rfl⟩
abbrev main_c_16 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_call0_v0 : Ref sig .tc := ⟨.hbm, 102, rfl⟩
abbrev main_call0_cst : Ref sig .tc := ⟨.hbm, 103, rfl⟩
abbrev main_call0_v1 : Ref sig .tc := ⟨.hbm, 104, rfl⟩
abbrev main_v75 : Ref sig .tc := ⟨.hbm, 105, rfl⟩
abbrev main_v76 : Ref sig .tc := ⟨.hbm, 106, rfl⟩
abbrev main_call1_v0 : Ref sig .tc := ⟨.hbm, 107, rfl⟩
abbrev main_call1_cst : Ref sig .tc := ⟨.hbm, 108, rfl⟩
abbrev main_call1_v1 : Ref sig .tc := ⟨.hbm, 109, rfl⟩
abbrev main_v77 : Ref sig .tc := ⟨.hbm, 110, rfl⟩
abbrev main_v78 : Ref sig .tc := ⟨.hbm, 111, rfl⟩
abbrev main_cst_17 : Ref sig .tc := ⟨.hbm, 112, rfl⟩
abbrev main_call2_v0 : Ref sig .tc := ⟨.hbm, 113, rfl⟩
abbrev main_call2_v1 : Ref sig .tc := ⟨.hbm, 114, rfl⟩
abbrev main_v79 : Ref sig .tc := ⟨.hbm, 115, rfl⟩
abbrev main_cst_18 : Ref sig .tc := ⟨.hbm, 116, rfl⟩
abbrev main_call3_v0 : Ref sig .tc := ⟨.hbm, 117, rfl⟩
abbrev main_call3_v1 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_19 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_20 : Ref sig .tc := ⟨.hbm, 127, rfl⟩
abbrev main_call4_v0 : Ref sig .tc := ⟨.hbm, 128, rfl⟩
abbrev main_call4_v1 : Ref sig .tc := ⟨.hbm, 129, rfl⟩
abbrev main_v87 : Ref sig .tc := ⟨.hbm, 130, rfl⟩
abbrev main_v88 : Ref sig .tc := ⟨.hbm, 131, rfl⟩
abbrev main_c_21 : Ref sig .tc := ⟨.hbm, 132, rfl⟩
abbrev main_v89 : Ref sig .tc := ⟨.hbm, 133, rfl⟩
abbrev main_v90 : Ref sig .tc := ⟨.hbm, 134, rfl⟩
abbrev main_c_22 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_c_23 : Ref sig .tc := ⟨.hbm, 139, rfl⟩
abbrev main_v94 : Ref sig .tc := ⟨.hbm, 140, rfl⟩
abbrev main_v95 : Ref sig .tc := ⟨.hbm, 141, rfl⟩
abbrev main_c_24 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_cst_25 : Ref sig .tc := ⟨.hbm, 149, rfl⟩
abbrev main_v102 : Ref sig .tc := ⟨.hbm, 150, rfl⟩
abbrev main_v103 : Ref sig .tc := ⟨.hbm, 151, rfl⟩
abbrev main_cst_26 : Ref sig .tc := ⟨.hbm, 152, rfl⟩
abbrev main_v104 : Ref sig .tc := ⟨.hbm, 153, rfl⟩
abbrev main_v105 : Ref sig .tc := ⟨.hbm, 154, rfl⟩
abbrev main_c_27 : Ref sig .tc := ⟨.hbm, 155, rfl⟩
abbrev main_v106 : Ref sig .tc := ⟨.hbm, 156, rfl⟩
abbrev main_v107 : Ref sig .tc := ⟨.hbm, 157, rfl⟩
abbrev main_cst_28 : Ref sig .tc := ⟨.hbm, 158, rfl⟩
abbrev main_call5_v0 : Ref sig .tc := ⟨.hbm, 159, rfl⟩
abbrev main_call5_v1 : Ref sig .tc := ⟨.hbm, 160, rfl⟩
abbrev main_call5_v2 : Ref sig .tc := ⟨.hbm, 161, rfl⟩
abbrev main_v108 : Ref sig .tc := ⟨.hbm, 162, rfl⟩
abbrev main_cst_29 : Ref sig .tc := ⟨.hbm, 163, rfl⟩
abbrev main_v109 : Ref sig .tc := ⟨.hbm, 164, rfl⟩
abbrev main_cst_30 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_cst_31 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_cst_32 : Ref sig .tc := ⟨.hbm, 177, rfl⟩
abbrev main_call6_v0 : Ref sig .tc := ⟨.hbm, 178, rfl⟩
abbrev main_call6_v1 : Ref sig .tc := ⟨.hbm, 179, rfl⟩
abbrev main_call6_v2 : Ref sig .tc := ⟨.hbm, 180, rfl⟩
abbrev main_v120 : Ref sig .tc := ⟨.hbm, 181, rfl⟩
abbrev main_v121 : Ref sig .tc := ⟨.hbm, 182, rfl⟩
abbrev main_c_33 : Ref sig .tc := ⟨.hbm, 183, rfl⟩
abbrev main_v122 : Ref sig .tc := ⟨.hbm, 184, rfl⟩
abbrev main_v123 : Ref sig .tc := ⟨.hbm, 185, rfl⟩
abbrev main_c_34 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_c_35 : Ref sig .tc := ⟨.hbm, 190, rfl⟩
abbrev main_v127 : Ref sig .tc := ⟨.hbm, 191, rfl⟩
abbrev main_v128 : Ref sig .tc := ⟨.hbm, 192, rfl⟩
abbrev main_c_36 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩

abbrev nD : Nat := 1
abbrev τ : Topo := Topo.v7x

variable {F : FTy → Type} [FloatOps F]
-- ==== Proof.PlainRun.lean ====
/- The body of the kernel as it stands, run: it ends, its inputs as they were, the output and the scratch at some contents. -/
module

public import proofs.«01_k».proof.Proof.PlainSetup

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2556000 in
/-- The body's triple: from whole staging buffers the inputs keep their contents; the output and the scratch buffers end at
    some contents, of which nothing is said. -/
theorem plainRun (c : Dev nD) (i : grid0.Coords) (arg2 : Memref sig .tc .vmem S4096x128 .f32) (harg2 : arg2.IsWhole) (arg3 : Memref sig .tc .vmem S128x384 .f32) (harg3 : arg3.IsWhole) (arg4 : Memref sig .tc .vmem S1x384 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .bf16) (harg7 : arg7.IsWhole) (arg8 : Memref sig .tc .vmem S4096x256 .bf16) (harg8 : arg8.IsWhole) (arg9 : Memref sig .tc .vmem S512x512 .f32) (harg9 : arg9.IsWhole)
    (x0 : Vec F S4096x128 .f32) (x1 : Vec F S128x384 .f32) (x2 : Vec F S1x384 .f32) (xt0 : TbBuf0 (F := F) c tbM0_0) (k0_hw1 : k0_chk1 (tbM0_0.view.readAt (Elt F) (Rect.unit (s := S17) ![0] S1.size inb_S17_S1_0).toLoadRect xt0 (Shape.Idx.first (numel1_S1.symm ▸ Nat.one_pos)))) (k0_hw2 : k0_chk2 (tbM0_0.view.readAt (Elt F) (Rect.unit (s := S17) ![1] S1.size inb_S17_S1_1).toLoadRect xt0 (Shape.Idx.first (numel1_S1.symm ▸ Nat.one_pos)))) (k0_hw3 : k0_chk3 (tbM0_0.view.readAt (Elt F) (Rect.unit (s := S17) ![2] S1.size inb_S17_S1_2).toLoadRect xt0 (Shape.Idx.first (numel1_S1.symm ▸ Nat.one_pos)))) (k0_hw4 : k0_chk4 (tbM0_0.view.readAt (Elt F) (Rect.unit (s := S17) ![3] S1.size inb_S17_S1_3).toLoadRect xt0 (Shape.Idx.first (numel1_S1.symm ▸ Nat.one_pos)))) (k0_hw5 : k0_chk5 (tbM0_0.view.readAt (Elt F) (Rect.unit (s := S17) ![4] S1.size inb_S17_S1_4).toLoadRect xt0 (Shape.Idx.first (numel1_S1.symm ▸ Nat.one_pos)))) (k0_hw6 : k0_chk6 (tbM0_0.view.readAt (Elt F) (Rect.unit (s := S17) ![5] S1.size inb_S17_S1_5).toLoadRect xt0 (Shape.Idx.first (numel1_S1.symm ▸ Nat.one_pos)))) (k0_hw7 : k0_chk7 (tbM0_0.view.readAt (Elt F) (Rect.unit (s := S17) ![6] S1.size inb_S17_S1_6).toLoadRect xt0 (Shape.Idx.first (numel1_S1.symm ▸ Nat.one_pos)))) (k0_hw8 : k0_chk8 (tbM0_0.view.readAt (Elt F) (Rect.unit (s := S17) ![7] S1.size inb_S17_S1_7).toLoadRect xt0 (Shape.Idx.first (numel1_S1.symm ▸ Nat.one_pos)))) (k0_hw9 : k0_chk9 (tbM0_0.view.readAt (Elt F) (Rect.unit (s := S17) ![8] S1.size inb_S17_S1_8).toLoadRect xt0 (Shape.Idx.first (numel1_S1.symm ▸ Nat.one_pos)))) (k0_hw10 : k0_chk10 (tbM0_0.view.readAt (Elt F) (Rect.unit (s := S17) ![9] S1.size inb_S17_S1_9).toLoadRect xt0 (Shape.Idx.first (numel1_S1.symm ▸ Nat.one_pos)))) (k0_hw11 : k0_chk11 (tbM0_0.view.readAt (Elt F) (Rect.unit (s := S17) ![10] S1.size inb_S17_S1_10).toLoadRect xt0 (Shape.Idx.first (numel1_S1.symm ▸ Nat.one_pos)))) (k0_hw12 : k0_chk12 (tbM0_0.view.readAt (Elt F) (Rect.unit (s := S17) ![11] S1.size inb_S17_S1_11).toLoadRect xt0 (Shape.Idx.first (numel1_S1.symm ▸ Nat.one_pos)))) (k0_hw13 : k0_chk13 (tbM0_0.view.readAt (Elt F) (Rect.unit (s := S17) ![12] S1.size inb_S17_S1_12).toLoadRect xt0 (Shape.Idx.first (numel1_S1.symm ▸ Nat.one_pos)))) (k0_hw14 : k0_chk14 (tbM0_0.view.readAt (Elt F) (Rect.unit (s := S17) ![13] S1.size inb_S17_S1_13).toLoadRect xt0 (Shape.Idx.first (numel1_S1.symm ▸ Nat.one_pos)))) (k0_hw15 : k0_chk15 (tbM0_0.view.readAt (Elt F) (Rect.unit (s := S17) ![14] S1.size inb_S17_S1_14).toLoadRect xt0 (Shape.Idx.first (numel1_S1.symm ▸ Nat.one_pos)))) (k0_hw16 : k0_chk16 (tbM0_0.view.readAt (Elt F) (Rect.unit (s := S17) ![15] S1.size inb_S17_S1_15).toLoadRect xt0 (Shape.Idx.first (numel1_S1.symm ▸ Nat.one_pos)))) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ tbPt0 c tbM0_0 xt0
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ tbPt0 c tbM0_0 xt0) -∗ K ⟨⟩))
          ⊢ wp frame (wpE (defs₀ (F := F)) Variants.none c none) E (cc0__seg_attn_kernel i tbM0_0 htbM0_0 arg2 harg2 arg3 harg3 arg4 harg4 arg5 harg5 arg6 harg6 arg7 harg7 arg8 harg8 arg9 harg9) K := by
    intro E K
    simp only [cc0__seg_attn_kernel_eq_skeleton]; unfold cc0__seg_attn_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, HT0, Hk⟩
    obtain rfl := harg2.eq_unread hf0; obtain rfl := harg3.eq_unread hf1; obtain rfl := harg4.eq_unread hf2
    sl_exec (disch := first | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12 | sl_exact k0_hw13 | sl_exact k0_hw14 | sl_exact k0_hw15 | sl_exact k0_hw16)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexact HT0

end Cert.Kernel.Gen

end
-- ==== Proof.PlainFrame.lean ====
/- The launch of the kernel as it stands: every run ends with the arguments unchanged and the counters at zero. Of the
   output nothing is said. -/
module

public import proofs.«01_k».proof.Proof.PlainRun
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output window, of which nothing is said. -/
def forgets0 : Fin 4 → Bool := fun w => w.val == 3

/-- The proof data of the one pipeline on core `c`: the arrays as the region finds them (`V`); after the body at
    point `t` each input's buffer at its block; the invariant `ΦA` (the scoped rest and the generator register) and the
    table's half (`ΦT`); nothing owed; full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, h⟩ => Pipeline.Dat.unnamed (cfg := (cfgM m hO)) ⟨3, h⟩ t
  Φ _ := iprop(Pipeline.ΦA spec0 c ∗ Pipeline.ΦT pre0 (tbl m) c)
  q _ := fullShare
  owed _ := 0

/-- The proof data's arrays are the region-entry contents. -/
theorem A_eq (hO : Ok m) (hH : Hyps m hO) (c : Dev nD) (w : Fin (cfgM m hO).W) : (dats m hO hH 0 c).A w = V m c (Pipeline.arrRef spec0 w) := by
  dsimp only [dats]

/-- What the body leaves, window by window. -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d

/-! ## The body obligation, at a generic point -/

/-- What the body is called with at point `t`, the windows one by one, -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare d))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ (∃ d, owns (c : Thread nD τ) (ms0_3 m hO t) fullShare d))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2]
  rw [show (dats m hO hH 0 c).Φ t.castSucc = iprop(Pipeline.ΦA spec0 c ∗ Pipeline.ΦT pre0 (tbl m) c) from rfl, PhiT0_eq, PhiA0_eq]
  iintro ⟨⟨⟨⟨HS0, HS1, HS2, HS3⟩, Hg⟩, HT0⟩, Ho, ⟨%d0, H0⟩, ⟨%d1, H1⟩, ⟨%d2, H2⟩, ⟨%d3, H3⟩⟩
  iapply ((plainRun c (grid0.coords t) _ _ _ _ _ _ _ _ _ _ _ _ _ _ _ _ (iblk m hO c 0 t) (iblk m hO c 1 t) (iblk m hO c 2 t) (tbl m 0) (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t) (Hyps.c9 hH c t) (Hyps.c10 hH c t) (Hyps.c11 hH c t) (Hyps.c12 hH c t) (Hyps.c13 hH c t) (Hyps.c14 hH c t) (Hyps.c15 hH c t)) Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  isplitl [HT0]; · iexact HT0
  iintro ⟨H0, H1, H2, H3, HS0, HS1, HS2, HS3, HT0⟩
  isplitl [HS0 HS1 HS2 HS3 Hg HT0]
  · isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    iexact HT0
  isplitl [Ho]; · iexact Ho
  isplitl [H0]; · iexact H0
  isplitl [H1]; · iexact H1
  isplitl [H2]; · iexact H2
  iexact H3

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body obligation, at every point: the body's triple restated (`triple_restated`). -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-! ## The run and the frame -/

set_option backward.isDefEq.respectTransparency.types false in
/-- The launch: every run ends with the input arrays unchanged and every counter at zero. -/
theorem run_main_quiescent (hO : Ok m) (hH : Hyps m hO) : θ_run defs (onTc (τ := τ) (main (F := F))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_forget (Q' := _) pcfgs (fun _ => adm m hO) (dats m hO hH) (0 : Fin 1) launch0 defs₀ Variants.none forgets0 m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m) (hΦ := fun _ _ => rfl)

/-- The same without the counters. -/
theorem run_main (hO : Ok m) (hH : Hyps m hO) : θ_run defs (onTc (τ := τ) (main (F := F))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH)

/-- The argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ hO (fun c => (dats m hO hH 0 c).toRForget forgets0) (A_eq m hO hH) (run_main m ρ hO hH)

/-- The arguments end unchanged and every counter at zero, under the side conditions of the boundary words. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO hH) ((θ_run defs _ _).mono (fun _ h => h.2) (run_main_quiescent m ρ hO hH))

end Cert.Kernel.Gen

end
-- ==== Proof.Setup.lean ====
/- The launch of the idealized kernel, set up: the schedule of its four windows, the buffers the host prefix
   leaves, the prefetched table, the blocks that the one grid point sees, and the side conditions of the boundary words. -/
module

public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (`Window.fetchOf` / `flushOf`), proved from the map and the fact about the
    axes it reads (`hreadsK_W`) or decided, and restated over the pinned window, which unfolds to them. A window whose
    map reads a table gets none here. -/

/-- Window 0 (operand 1 (%arg0)) is fetched at every point, at any contents of the tables (its index map reads none). -/
theorem fetch0_0 (a : (pcfg0 (F := F)).Adm) : ∀ t : Fin (cfg0 a).N, ((cfg0 a).win 0).fetch t = true :=
  (by decide +kernel : ∀ t : Fin grid0.N, Pipeline.Window.fetchOf grid0 false cc0_transform_0 t = true)
/-- Window 1 (operand 2 (%0)) is fetched at every point, at any contents of the tables (its index map reads none). -/
theorem fetch0_1 (a : (pcfg0 (F := F)).Adm) : ∀ t : Fin (cfg0 a).N, ((cfg0 a).win 1).fetch t = true :=
  (by decide +kernel : ∀ t : Fin grid0.N, Pipeline.Window.fetchOf grid0 false cc0_transform_1 t = true)
/-- Window 2 (operand 3 (%2)) is fetched at every point, at any contents of the tables (its index map reads none). -/
theorem fetch0_2 (a : (pcfg0 (F := F)).Adm) : ∀ t : Fin (cfg0 a).N, ((cfg0 a).win 2).fetch t = true :=
  (by decide +kernel : ∀ t : Fin grid0.N, Pipeline.Window.fetchOf grid0 false cc0_transform_2 t = true)
/-- Window 3 (result 0 (%3)) is written back at every point, at any contents of the tables (its index map reads none). -/
theorem flush0_3 (a : (pcfg0 (F := F)).Adm) : ∀ t : Fin (cfg0 a).N, ((cfg0 a).win 3).flush t = true :=
  (by decide +kernel : ∀ t : Fin grid0.N, Pipeline.Window.flushOf grid0 true cc0_transform_3 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0__seg_attn_kernel (grid0.coords t) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole cc0_scratch0) (Memref.isWhole_whole _) (Memref.whole cc0_scratch1) (Memref.isWhole_whole _) (Memref.whole cc0_scratch2) (Memref.isWhole_whole _) (Memref.whole cc0_scratch3) (Memref.isWhole_whole _)

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (`ok0`; here no map reads a table, so it is `True`). -/
abbrev Ok : Prop := ok0 (F := F) (tbl m)
/-- The tables' contents as ADMISSIBLE contents, and the pipeline at them: what the launch theorem
    `θ_run_frameP` runs. -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S17 .i32 := Memref.whole main_arg1
abbrev htbM0_0 : tbM0_0.IsWhole := Memref.isWhole_whole _

/-- A table memref's buffer on core `c`: its contents type, and it held at HALF the full share at `f` — behind this
    abbreviation, so that rewriting leaves `Memref.view` intact; read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (`ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`):
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`):
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`):
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    `RDat.FramePost` read at the argument arrays — a staged input by the library's
    `RDat.FramePost.arr_in`, an array no window stages by the post's second clause, each then by `V_…` — is the frame
    claim's post at any `F`. -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 0 rfl).trans ((hA c 0).trans (V_main_arg0 m c)),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c)⟩) h

/-! ## The kernel body on any staging memrefs -/

/-- Each window's current staging memref at point `t`, spelled as the pipeline passes it (`bodyAt0`), and its wholeness. -/
abbrev ms0_0 (hO : Ok m) (t : Fin (cfgM m hO).N) : Memref sig .tc .vmem S4096x128 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S128x384 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x384 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S4096x128 .f32 := spec0_3.stage ((cfgM m hO).slots t 3)
abbrev hs0_3 (hO : Ok m) (t : Fin (cfgM m hO).N) : (ms0_3 m hO t).IsWhole := hstage0_3 (((cfgM m hO).slots t 3).cast nbuf0_3)

/-! ## The side conditions the body assumes, as the frame's hypothesis -/

/-- The side conditions that the body assumes of the boundary words it loads (`TpuEff.assume (k0_chkN …)`), at every
    point, over the table's words (`tbl m`, under `hO`), each word spelled as the body reads it. -/
def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S17) ![0] S1.size inb_S17_S1_0).toLoadRect (tbl m 0) (Shape.Idx.first (numel1_S1.symm ▸ Nat.one_pos)))
    ∧ k0_chk2 (tbM0_0.view.readAt (Elt F) (Rect.unit (s := S17) ![1] S1.size inb_S17_S1_1).toLoadRect (tbl m 0) (Shape.Idx.first (numel1_S1.symm ▸ Nat.one_pos)))
    ∧ k0_chk3 (tbM0_0.view.readAt (Elt F) (Rect.unit (s := S17) ![2] S1.size inb_S17_S1_2).toLoadRect (tbl m 0) (Shape.Idx.first (numel1_S1.symm ▸ Nat.one_pos)))
    ∧ k0_chk4 (tbM0_0.view.readAt (Elt F) (Rect.unit (s := S17) ![3] S1.size inb_S17_S1_3).toLoadRect (tbl m 0) (Shape.Idx.first (numel1_S1.symm ▸ Nat.one_pos)))
    ∧ k0_chk5 (tbM0_0.view.readAt (Elt F) (Rect.unit (s := S17) ![4] S1.size inb_S17_S1_4).toLoadRect (tbl m 0) (Shape.Idx.first (numel1_S1.symm ▸ Nat.one_pos)))
    ∧ k0_chk6 (tbM0_0.view.readAt (Elt F) (Rect.unit (s := S17) ![5] S1.size inb_S17_S1_5).toLoadRect (tbl m 0) (Shape.Idx.first (numel1_S1.symm ▸ Nat.one_pos)))
    ∧ k0_chk7 (tbM0_0.view.readAt (Elt F) (Rect.unit (s := S17) ![6] S1.size inb_S17_S1_6).toLoadRect (tbl m 0) (Shape.Idx.first (numel1_S1.symm ▸ Nat.one_pos)))
    ∧ k0_chk8 (tbM0_0.view.readAt (Elt F) (Rect.unit (s := S17) ![7] S1.size inb_S17_S1_7).toLoadRect (tbl m 0) (Shape.Idx.first (numel1_S1.symm ▸ Nat.one_pos)))
    ∧ k0_chk9 (tbM0_0.view.readAt (Elt F) (Rect.unit (s := S17) ![8] S1.size inb_S17_S1_8).toLoadRect (tbl m 0) (Shape.Idx.first (numel1_S1.symm ▸ Nat.one_pos)))
    ∧ k0_chk10 (tbM0_0.view.readAt (Elt F) (Rect.unit (s := S17) ![9] S1.size inb_S17_S1_9).toLoadRect (tbl m 0) (Shape.Idx.first (numel1_S1.symm ▸ Nat.one_pos)))
    ∧ k0_chk11 (tbM0_0.view.readAt (Elt F) (Rect.unit (s := S17) ![10] S1.size inb_S17_S1_10).toLoadRect (tbl m 0) (Shape.Idx.first (numel1_S1.symm ▸ Nat.one_pos)))
    ∧ k0_chk12 (tbM0_0.view.readAt (Elt F) (Rect.unit (s := S17) ![11] S1.size inb_S17_S1_11).toLoadRect (tbl m 0) (Shape.Idx.first (numel1_S1.symm ▸ Nat.one_pos)))
    ∧ k0_chk13 (tbM0_0.view.readAt (Elt F) (Rect.unit (s := S17) ![12] S1.size inb_S17_S1_12).toLoadRect (tbl m 0) (Shape.Idx.first (numel1_S1.symm ▸ Nat.one_pos)))
    ∧ k0_chk14 (tbM0_0.view.readAt (Elt F) (Rect.unit (s := S17) ![13] S1.size inb_S17_S1_13).toLoadRect (tbl m 0) (Shape.Idx.first (numel1_S1.symm ▸ Nat.one_pos)))
    ∧ k0_chk15 (tbM0_0.view.readAt (Elt F) (Rect.unit (s := S17) ![14] S1.size inb_S17_S1_14).toLoadRect (tbl m 0) (Shape.Idx.first (numel1_S1.symm ▸ Nat.one_pos)))
    ∧ k0_chk16 (tbM0_0.view.readAt (Elt F) (Rect.unit (s := S17) ![15] S1.size inb_S17_S1_15).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what the bounds on the boundary words give). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S17) ![0] S1.size inb_S17_S1_0).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (tbM0_0.view.readAt (Elt F) (Rect.unit (s := S17) ![0] S1.size inb_S17_S1_0).toLoadRect (tbl m 0) (Shape.Idx.first (numel1_S1.symm ▸ Nat.one_pos))) := (hH c t).1
/-- Conjunct 1 of `Gen.Hyps` at point `t`: the side condition `k0_chk2` the body assumes as `k0_hw2`. -/
abbrev Hyps.p1 (m : (ℓ : Loc nD τ sig) → Buf (Elt F) ℓ) (hO : Ok m) (c : Dev nD) (t : Fin (cfgM m hO).N) : Prop :=
  k0_chk2 (tbM0_0.view.readAt (Elt F) (Rect.unit (s := S17) ![1] S1.size inb_S17_S1_1).toLoadRect (tbl m 0) (Shape.Idx.first (numel1_S1.symm ▸ Nat.one_pos)))
variable {m} in
theorem Hyps.c1 {hO : Ok m} (hH : Hyps m hO) (c : Dev nD) (t : Fin (cfgM m hO).N) :
    k0_chk2 (tbM0_0.view.readAt (Elt F) (Rect.unit (s := S17) ![1] S1.size inb_S17_S1_1).toLoadRect (tbl m 0) (Shape.Idx.first (numel1_S1.symm ▸ Nat.one_pos))) := (hH c t).2.1
/-- Conjunct 2 of `Gen.Hyps` at point `t`: the side condition `k0_chk3` the body assumes as `k0_hw3`. -/
abbrev Hyps.p2 (m : (ℓ : Loc nD τ sig) → Buf (Elt F) ℓ) (hO : Ok m) (c : Dev nD) (t : Fin (cfgM m hO).N) : Prop :=
  k0_chk3 (tbM0_0.view.readAt (Elt F) (Rect.unit (s := S17) ![2] S1.size inb_S17_S1_2).toLoadRect (tbl m 0) (Shape.Idx.first (numel1_S1.symm ▸ Nat.one_pos)))
variable {m} in
theorem Hyps.c2 {hO : Ok m} (hH : Hyps m hO) (c : Dev nD) (t : Fin (cfgM m hO).N) :
    k0_chk3 (tbM0_0.view.readAt (Elt F) (Rect.unit (s := S17) ![2] S1.size inb_S17_S1_2).toLoadRect (tbl m 0) (Shape.Idx.first (numel1_S1.symm ▸ Nat.one_pos))) := (hH c t).2.2.1
/-- Conjunct 3 of `Gen.Hyps` at point `t`: the side condition `k0_chk4` the body assumes as `k0_hw4`. -/
abbrev Hyps.p3 (m : (ℓ : Loc nD τ sig) → Buf (Elt F) ℓ) (hO : Ok m) (c : Dev nD) (t : Fin (cfgM m hO).N) : Prop :=
  k0_chk4 (tbM0_0.view.readAt (Elt F) (Rect.unit (s := S17) ![3] S1.size inb_S17_S1_3).toLoadRect (tbl m 0) (Shape.Idx.first (numel1_S1.symm ▸ Nat.one_pos)))
variable {m} in
theorem Hyps.c3 {hO : Ok m} (hH : Hyps m hO) (c : Dev nD) (t : Fin (cfgM m hO).N) :
    k0_chk4 (tbM0_0.view.readAt (Elt F) (Rect.unit (s := S17) ![3] S1.size inb_S17_S1_3).toLoadRect (tbl m 0) (Shape.Idx.first (numel1_S1.symm ▸ Nat.one_pos))) := (hH c t).2.2.2.1
/-- Conjunct 4 of `Gen.Hyps` at point `t`: the side condition `k0_chk5` the body assumes as `k0_hw5`. -/
abbrev Hyps.p4 (m : (ℓ : Loc nD τ sig) → Buf (Elt F) ℓ) (hO : Ok m) (c : Dev nD) (t : Fin (cfgM m hO).N) : Prop :=
  k0_chk5 (tbM0_0.view.readAt (Elt F) (Rect.unit (s := S17) ![4] S1.size inb_S17_S1_4).toLoadRect (tbl m 0) (Shape.Idx.first (numel1_S1.symm ▸ Nat.one_pos)))
variable {m} in
theorem Hyps.c4 {hO : Ok m} (hH : Hyps m hO) (c : Dev nD) (t : Fin (cfgM m hO).N) :
    k0_chk5 (tbM0_0.view.readAt (Elt F) (Rect.unit (s := S17) ![4] S1.size inb_S17_S1_4).toLoadRect (tbl m 0) (Shape.Idx.first (numel1_S1.symm ▸ Nat.one_pos))) := (hH c t).2.2.2.2.1
/-- Conjunct 5 of `Gen.Hyps` at point `t`: the side condition `k0_chk6` the body assumes as `k0_hw6`. -/
abbrev Hyps.p5 (m : (ℓ : Loc nD τ sig) → Buf (Elt F) ℓ) (hO : Ok m) (c : Dev nD) (t : Fin (cfgM m hO).N) : Prop :=
  k0_chk6 (tbM0_0.view.readAt (Elt F) (Rect.unit (s := S17) ![5] S1.size inb_S17_S1_5).toLoadRect (tbl m 0) (Shape.Idx.first (numel1_S1.symm ▸ Nat.one_pos)))
variable {m} in
theorem Hyps.c5 {hO : Ok m} (hH : Hyps m hO) (c : Dev nD) (t : Fin (cfgM m hO).N) :
    k0_chk6 (tbM0_0.view.readAt (Elt F) (Rect.unit (s := S17) ![5] S1.size inb_S17_S1_5).toLoadRect (tbl m 0) (Shape.Idx.first (numel1_S1.symm ▸ Nat.one_pos))) := (hH c t).2.2.2.2.2.1
/-- Conjunct 6 of `Gen.Hyps` at point `t`: the side condition `k0_chk7` the body assumes as `k0_hw7`. -/
abbrev Hyps.p6 (m : (ℓ : Loc nD τ sig) → Buf (Elt F) ℓ) (hO : Ok m) (c : Dev nD) (t : Fin (cfgM m hO).N) : Prop :=
  k0_chk7 (tbM0_0.view.readAt (Elt F) (Rect.unit (s := S17) ![6] S1.size inb_S17_S1_6).toLoadRect (tbl m 0) (Shape.Idx.first (numel1_S1.symm ▸ Nat.one_pos)))
variable {m} in
theorem Hyps.c6 {hO : Ok m} (hH : Hyps m hO) (c : Dev nD) (t : Fin (cfgM m hO).N) :
    k0_chk7 (tbM0_0.view.readAt (Elt F) (Rect.unit (s := S17) ![6] S1.size inb_S17_S1_6).toLoadRect (tbl m 0) (Shape.Idx.first (numel1_S1.symm ▸ Nat.one_pos))) := (hH c t).2.2.2.2.2.2.1
/-- Conjunct 7 of `Gen.Hyps` at point `t`: the side condition `k0_chk8` the body assumes as `k0_hw8`. -/
abbrev Hyps.p7 (m : (ℓ : Loc nD τ sig) → Buf (Elt F) ℓ) (hO : Ok m) (c : Dev nD) (t : Fin (cfgM m hO).N) : Prop :=
  k0_chk8 (tbM0_0.view.readAt (Elt F) (Rect.unit (s := S17) ![7] S1.size inb_S17_S1_7).toLoadRect (tbl m 0) (Shape.Idx.first (numel1_S1.symm ▸ Nat.one_pos)))
variable {m} in
theorem Hyps.c7 {hO : Ok m} (hH : Hyps m hO) (c : Dev nD) (t : Fin (cfgM m hO).N) :
    k0_chk8 (tbM0_0.view.readAt (Elt F) (Rect.unit (s := S17) ![7] S1.size inb_S17_S1_7).toLoadRect (tbl m 0) (Shape.Idx.first (numel1_S1.symm ▸ Nat.one_pos))) := (hH c t).2.2.2.2.2.2.2.1
/-- Conjunct 8 of `Gen.Hyps` at point `t`: the side condition `k0_chk9` the body assumes as `k0_hw9`. -/
abbrev Hyps.p8 (m : (ℓ : Loc nD τ sig) → Buf (Elt F) ℓ) (hO : Ok m) (c : Dev nD) (t : Fin (cfgM m hO).N) : Prop :=
  k0_chk9 (tbM0_0.view.readAt (Elt F) (Rect.unit (s := S17) ![8] S1.size inb_S17_S1_8).toLoadRect (tbl m 0) (Shape.Idx.first (numel1_S1.symm ▸ Nat.one_pos)))
variable {m} in
theorem Hyps.c8 {hO : Ok m} (hH : Hyps m hO) (c : Dev nD) (t : Fin (cfgM m hO).N) :
    k0_chk9 (tbM0_0.view.readAt (Elt F) (Rect.unit (s := S17) ![8] S1.size inb_S17_S1_8).toLoadRect (tbl m 0) (Shape.Idx.first (numel1_S1.symm ▸ Nat.one_pos))) := (hH c t).2.2.2.2.2.2.2.2.1
/-- Conjunct 9 of `Gen.Hyps` at point `t`: the side condition `k0_chk10` the body assumes as `k0_hw10`. -/
abbrev Hyps.p9 (m : (ℓ : Loc nD τ sig) → Buf (Elt F) ℓ) (hO : Ok m) (c : Dev nD) (t : Fin (cfgM m hO).N) : Prop :=
  k0_chk10 (tbM0_0.view.readAt (Elt F) (Rect.unit (s := S17) ![9] S1.size inb_S17_S1_9).toLoadRect (tbl m 0) (Shape.Idx.first (numel1_S1.symm ▸ Nat.one_pos)))
variable {m} in
theorem Hyps.c9 {hO : Ok m} (hH : Hyps m hO) (c : Dev nD) (t : Fin (cfgM m hO).N) :
    k0_chk10 (tbM0_0.view.readAt (Elt F) (Rect.unit (s := S17) ![9] S1.size inb_S17_S1_9).toLoadRect (tbl m 0) (Shape.Idx.first (numel1_S1.symm ▸ Nat.one_pos))) := (hH c t).2.2.2.2.2.2.2.2.2.1
/-- Conjunct 10 of `Gen.Hyps` at point `t`: the side condition `k0_chk11` the body assumes as `k0_hw11`. -/
abbrev Hyps.p10 (m : (ℓ : Loc nD τ sig) → Buf (Elt F) ℓ) (hO : Ok m) (c : Dev nD) (t : Fin (cfgM m hO).N) : Prop :=
  k0_chk11 (tbM0_0.view.readAt (Elt F) (Rect.unit (s := S17) ![10] S1.size inb_S17_S1_10).toLoadRect (tbl m 0) (Shape.Idx.first (numel1_S1.symm ▸ Nat.one_pos)))
variable {m} in
theorem Hyps.c10 {hO : Ok m} (hH : Hyps m hO) (c : Dev nD) (t : Fin (cfgM m hO).N) :
    k0_chk11 (tbM0_0.view.readAt (Elt F) (Rect.unit (s := S17) ![10] S1.size inb_S17_S1_10).toLoadRect (tbl m 0) (Shape.Idx.first (numel1_S1.symm ▸ Nat.one_pos))) := (hH c t).2.2.2.2.2.2.2.2.2.2.1
/-- Conjunct 11 of `Gen.Hyps` at point `t`: the side condition `k0_chk12` the body assumes as `k0_hw12`. -/
abbrev Hyps.p11 (m : (ℓ : Loc nD τ sig) → Buf (Elt F) ℓ) (hO : Ok m) (c : Dev nD) (t : Fin (cfgM m hO).N) : Prop :=
  k0_chk12 (tbM0_0.view.readAt (Elt F) (Rect.unit (s := S17) ![11] S1.size inb_S17_S1_11).toLoadRect (tbl m 0) (Shape.Idx.first (numel1_S1.symm ▸ Nat.one_pos)))
variable {m} in
theorem Hyps.c11 {hO : Ok m} (hH : Hyps m hO) (c : Dev nD) (t : Fin (cfgM m hO).N) :
    k0_chk12 (tbM0_0.view.readAt (Elt F) (Rect.unit (s := S17) ![11] S1.size inb_S17_S1_11).toLoadRect (tbl m 0) (Shape.Idx.first (numel1_S1.symm ▸ Nat.one_pos))) := (hH c t).2.2.2.2.2.2.2.2.2.2.2.1
/-- Conjunct 12 of `Gen.Hyps` at point `t`: the side condition `k0_chk13` the body assumes as `k0_hw13`. -/
abbrev Hyps.p12 (m : (ℓ : Loc nD τ sig) → Buf (Elt F) ℓ) (hO : Ok m) (c : Dev nD) (t : Fin (cfgM m hO).N) : Prop :=
  k0_chk13 (tbM0_0.view.readAt (Elt F) (Rect.unit (s := S17) ![12] S1.size inb_S17_S1_12).toLoadRect (tbl m 0) (Shape.Idx.first (numel1_S1.symm ▸ Nat.one_pos)))
variable {m} in
theorem Hyps.c12 {hO : Ok m} (hH : Hyps m hO) (c : Dev nD) (t : Fin (cfgM m hO).N) :
    k0_chk13 (tbM0_0.view.readAt (Elt F) (Rect.unit (s := S17) ![12] S1.size inb_S17_S1_12).toLoadRect (tbl m 0) (Shape.Idx.first (numel1_S1.symm ▸ Nat.one_pos))) := (hH c t).2.2.2.2.2.2.2.2.2.2.2.2.1
/-- Conjunct 13 of `Gen.Hyps` at point `t`: the side condition `k0_chk14` the body assumes as `k0_hw14`. -/
abbrev Hyps.p13 (m : (ℓ : Loc nD τ sig) → Buf (Elt F) ℓ) (hO : Ok m) (c : Dev nD) (t : Fin (cfgM m hO).N) : Prop :=
  k0_chk14 (tbM0_0.view.readAt (Elt F) (Rect.unit (s := S17) ![13] S1.size inb_S17_S1_13).toLoadRect (tbl m 0) (Shape.Idx.first (numel1_S1.symm ▸ Nat.one_pos)))
variable {m} in
theorem Hyps.c13 {hO : Ok m} (hH : Hyps m hO) (c : Dev nD) (t : Fin (cfgM m hO).N) :
    k0_chk14 (tbM0_0.view.readAt (Elt F) (Rect.unit (s := S17) ![13] S1.size inb_S17_S1_13).toLoadRect (tbl m 0) (Shape.Idx.first (numel1_S1.symm ▸ Nat.one_pos))) := (hH c t).2.2.2.2.2.2.2.2.2.2.2.2.2.1
/-- Conjunct 14 of `Gen.Hyps` at point `t`: the side condition `k0_chk15` the body assumes as `k0_hw15`. -/
abbrev Hyps.p14 (m : (ℓ : Loc nD τ sig) → Buf (Elt F) ℓ) (hO : Ok m) (c : Dev nD) (t : Fin (cfgM m hO).N) : Prop :=
  k0_chk15 (tbM0_0.view.readAt (Elt F) (Rect.unit (s := S17) ![14] S1.size inb_S17_S1_14).toLoadRect (tbl m 0) (Shape.Idx.first (numel1_S1.symm ▸ Nat.one_pos)))
variable {m} in
theorem Hyps.c14 {hO : Ok m} (hH : Hyps m hO) (c : Dev nD) (t : Fin (cfgM m hO).N) :
    k0_chk15 (tbM0_0.view.readAt (Elt F) (Rect.unit (s := S17) ![14] S1.size inb_S17_S1_14).toLoadRect (tbl m 0) (Shape.Idx.first (numel1_S1.symm ▸ Nat.one_pos))) := (hH c t).2.2.2.2.2.2.2.2.2.2.2.2.2.2.1
/-- Conjunct 15 of `Gen.Hyps` at point `t`: the side condition `k0_chk16` the body assumes as `k0_hw16`. -/
abbrev Hyps.p15 (m : (ℓ : Loc nD τ sig) → Buf (Elt F) ℓ) (hO : Ok m) (c : Dev nD) (t : Fin (cfgM m hO).N) : Prop :=
  k0_chk16 (tbM0_0.view.readAt (Elt F) (Rect.unit (s := S17) ![15] S1.size inb_S17_S1_15).toLoadRect (tbl m 0) (Shape.Idx.first (numel1_S1.symm ▸ Nat.one_pos)))
variable {m} in
theorem Hyps.c15 {hO : Ok m} (hH : Hyps m hO) (c : Dev nD) (t : Fin (cfgM m hO).N) :
    k0_chk16 (tbM0_0.view.readAt (Elt F) (Rect.unit (s := S17) ![15] S1.size inb_S17_S1_15).toLoadRect (tbl m 0) (Shape.Idx.first (numel1_S1.symm ▸ Nat.one_pos))) := (hH c t).2.2.2.2.2.2.2.2.2.2.2.2.2.2.2
variable {m} in
theorem Hyps.of {hO : Ok m}
    (p0 : ∀ (c : Dev nD) (t : Fin (cfgM m hO).N), Hyps.p0 m hO c t)
    (p1 : ∀ (c : Dev nD) (t : Fin (cfgM m hO).N), Hyps.p1 m hO c t)
    (p2 : ∀ (c : Dev nD) (t : Fin (cfgM m hO).N), Hyps.p2 m hO c t)
    (p3 : ∀ (c : Dev nD) (t : Fin (cfgM m hO).N), Hyps.p3 m hO c t)
    (p4 : ∀ (c : Dev nD) (t : Fin (cfgM m hO).N), Hyps.p4 m hO c t)
    (p5 : ∀ (c : Dev nD) (t : Fin (cfgM m hO).N), Hyps.p5 m hO c t)
    (p6 : ∀ (c : Dev nD) (t : Fin (cfgM m hO).N), Hyps.p6 m hO c t)
    (p7 : ∀ (c : Dev nD) (t : Fin (cfgM m hO).N), Hyps.p7 m hO c t)
    (p8 : ∀ (c : Dev nD) (t : Fin (cfgM m hO).N), Hyps.p8 m hO c t)
    (p9 : ∀ (c : Dev nD) (t : Fin (cfgM m hO).N), Hyps.p9 m hO c t)
    (p10 : ∀ (c : Dev nD) (t : Fin (cfgM m hO).N), Hyps.p10 m hO c t)
    (p11 : ∀ (c : Dev nD) (t : Fin (cfgM m hO).N), Hyps.p11 m hO c t)
    (p12 : ∀ (c : Dev nD) (t : Fin (cfgM m hO).N), Hyps.p12 m hO c t)
    (p13 : ∀ (c : Dev nD) (t : Fin (cfgM m hO).N), Hyps.p13 m hO c t)
    (p14 : ∀ (c : Dev nD) (t : Fin (cfgM m hO).N), Hyps.p14 m hO c t)
    (p15 : ∀ (c : Dev nD) (t : Fin (cfgM m hO).N), Hyps.p15 m hO c t) :
    Hyps m hO := fun c t =>
  And.intro (p0 c t) (And.intro (p1 c t) (And.intro (p2 c t) (And.intro (p3 c t) (And.intro (p4 c t) (And.intro (p5 c t) (And.intro (p6 c t) (And.intro (p7 c t) (And.intro (p8 c t) (And.intro (p9 c t) (And.intro (p10 c t) (And.intro (p11 c t) (And.intro (p12 c t) (And.intro (p13 c t) (And.intro (p14 c t) (p15 c t)))))))))))))))

/-- The scratch operands: whole scoped buffers of the kernel's own, passed beside the windows. -/
abbrev scM0_0 : Memref sig .tc .vmem S4096x128 .bf16 := Memref.whole cc0_scratch0
abbrev scM0_1 : Memref sig .tc .vmem S4096x128 .bf16 := Memref.whole cc0_scratch1
abbrev scM0_2 : Memref sig .tc .vmem S4096x256 .bf16 := Memref.whole cc0_scratch2
abbrev scM0_3 : Memref sig .tc .vmem S512x512 .f32 := Memref.whole cc0_scratch3

/-- The frame kit's invariant with the scratch operands as memrefs owned at some contents (`Gen.scopedRest0_eq`,
    `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Gen

end
-- ==== Proof.Window.lean ====
/- The kernel's word for the first row of a segment's window: `min a 3584` rounded down to a multiple of 16, as a number. -/
module

public import Idealize.ShloMosaic.Machine
public import Idealize.ShloMosaic.Lib.WordCmp
public import Idealize.ShloMosaic.Lib.WordArith

@[expose] public section

namespace Cert.Attention

open Idealize.ShloMosaic

/-- The sign of a word, as a word. -/
def signWord (w : BitVec 32) : BitVec 32 := Scalar.subi (Scalar.extui (Scalar.cmpi .sgt w 0#32)) (Scalar.extui (Scalar.cmpi .slt w 0#32))

/-- The quotient of a word by 16, rounded down, as the kernel's words compute it. -/
def floorDiv16 (w : BitVec 32) : BitVec 32 :=
  Scalar.select (Scalar.andi (Scalar.cmpi .ne (signWord w) (signWord 16#32)) (Scalar.cmpi .ne (Scalar.remsi w 16#32) 0#32))
    (Scalar.subi (Scalar.divsi w 16#32) 1#32) (Scalar.divsi w 16#32)

/-- The first row of the window of 512 rows that serves the segment beginning at word `a`: `min a 3584`, rounded down to
    a multiple of 16, as the kernel's words compute it. -/
def aligned (a : BitVec 32) : BitVec 32 := Scalar.muli (floorDiv16 (Scalar.minsi a 3584#32)) 16#32

theorem sdiv16 (w : BitVec 32) (h : w.toNat ≤ 4096) : w.sdiv 16#32 = w / 16#32 := by
  have hm : w.msb = false := by rw [BitVec.msb_eq_false_iff_two_mul_lt]; omega
  rw [BitVec.sdiv_eq, hm]
  rfl

theorem srem16 (w : BitVec 32) (h : w.toNat ≤ 4096) : w.srem 16#32 = w % 16#32 := by
  have hm : w.msb = false := by rw [BitVec.msb_eq_false_iff_two_mul_lt]; omega
  rw [BitVec.srem_eq, hm]
  rfl

/-- Two words below `2 ^ 31` compare, as signed numbers, as their naturals do. -/
theorem slt_small (x y : BitVec 32) (hx : x.toNat < 2147483648) (hy : y.toNat < 2147483648) : BitVec.slt x y = decide (x.toNat < y.toNat) := by
  rw [Bool.eq_iff_iff, BitVec.slt_iff_toInt_lt, BitVec.toInt_eq_toNat_of_lt (by omega), BitVec.toInt_eq_toNat_of_lt (by omega), decide_eq_true_iff]
  omega

theorem sle_small (x y : BitVec 32) (hx : x.toNat < 2147483648) (hy : y.toNat < 2147483648) : BitVec.sle x y = decide (x.toNat ≤ y.toNat) := by
  rw [Bool.eq_iff_iff, BitVec.sle_iff_toInt_le, BitVec.toInt_eq_toNat_of_lt (by omega), BitVec.toInt_eq_toNat_of_lt (by omega), decide_eq_true_iff]
  omega

theorem signWord_pos (w : BitVec 32) (h : w.toNat ≤ 4096) (h0 : w.toNat ≠ 0) : signWord w = signWord 16#32 := by
  have e1 : BitVec.slt 0#32 w = true := by
    rw [slt_small _ _ (by decide) (by omega)]
    exact decide_eq_true (Nat.pos_of_ne_zero h0)
  have e2 : BitVec.slt w 0#32 = false := by
    rw [slt_small _ _ (by omega) (by decide)]
    exact decide_eq_false (Nat.not_lt_zero _)
  unfold signWord
  simp only [Scalar.cmpi, IntOp.cmpi, e1, e2]
  decide

/-- For a word of at most 4096 the floor quotient is the quotient of naturals. -/
theorem floorDiv16_toNat (w : BitVec 32) (h : w.toNat ≤ 4096) : (floorDiv16 w).toNat = w.toNat / 16 := by
  have hd : Scalar.divsi w 16#32 = w / 16#32 := by
    rw [← sdiv16 w h]
    simp [Scalar.divsi, IntOp.divsi, IntOp.SDivCorner]
  have hr : Scalar.remsi w 16#32 = w % 16#32 := by
    rw [← srem16 w h]
    simp [Scalar.remsi, IntOp.remsi, IntOp.SDivCorner]
  have hc : Scalar.andi (Scalar.cmpi .ne (signWord w) (signWord 16#32)) (Scalar.cmpi .ne (Scalar.remsi w 16#32) 0#32) = 0#1 := by
    by_cases h0 : w.toNat = 0
    · have : w = 0#32 := BitVec.eq_of_toNat_eq h0
      subst this
      decide
    · rw [signWord_pos w h h0]
      simp [Scalar.andi, IntOp.andi, Scalar.cmpi, IntOp.cmpi]
  unfold floorDiv16
  rw [hc, hd]
  show (w / 16#32).toNat = _
  rw [BitVec.toNat_udiv]
  rfl

/-- The window of a segment that begins at row `a ≤ 4096` begins at the multiple of 16 under `min a 3584`. -/
theorem aligned_toNat (a : BitVec 32) (h : a.toNat ≤ 4096) : (aligned a).toNat = min a.toNat 3584 / 16 * 16 := by
  have hm : (Scalar.minsi a 3584#32).toNat = min a.toNat 3584 := by
    show (if BitVec.slt a 3584#32 then a else 3584#32).toNat = _
    rw [slt_small _ _ (by omega) (by decide)]
    have e : (3584#32).toNat = 3584 := rfl
    rw [e]
    by_cases hc : a.toNat < 3584
    · rw [decide_eq_true hc, if_pos rfl]
      omega
    · rw [decide_eq_false hc]
      show 3584 = _
      omega
  unfold aligned
  show (floorDiv16 (Scalar.minsi a 3584#32) * 16#32).toNat = _
  rw [BitVec.toNat_mul, floorDiv16_toNat _ (by rw [hm]; omega), hm]
  show _ * 16 % 2 ^ 32 = _
  rw [Nat.mod_eq_of_lt (by omega)]

end Cert.Attention
-- ==== Proof.Segments.lean ====
/- What the kernel's body makes of its output, as a function of vectors: the query, key and value rows of the projection,
   the step that one segment makes, and the sixteen steps in turn. -/
module

public import proofs.«01_k».proof.Proof.Setup
public import proofs.«01_k».proof.Proof.Window
public import Idealize.ShloMosaic.Lib.VecWindow

@[expose] public section

set_option maxRecDepth 16384

noncomputable section

namespace Cert.KernelIdeal.Gen

open Idealize.ShloMosaic Idealize.ShloMosaic.TcCoe
open Cert.Attention

variable {F : FTy → Type} [FloatOps F] [Named F]

/-- The boundary word `n` of the table `xt`. -/
def boundary (c : Dev nD) (xt : TbBuf0 (F := F) c tbM0_0) (n : Fin 17) : BitVec 32 :=
  tbM0_0.view.readAt (Elt F) (Rect.unit (s := S17) ![n.val] S1.size (Fin.forall_fin_one.mpr (by
    show n.val + 1 ≤ 17
    omega))).toLoadRect xt (Shape.Idx.first (numel1_S1.symm ▸ Nat.one_pos))

/-- The rows `aligned a, …, aligned a + 511` of the two row arrays. -/
abbrev rowsAt (a : BitVec 32) : Fin 2 → ℕ := ![(aligned a).toNat, 0]

/-- The window of a segment lies inside the 4096 rows. -/
def Inside (a : BitVec 32) : Prop :=
  (∀ x, rowsAt a x + S512x128.size x ≤ S4096x128.size x) ∧ (∀ x, rowsAt a x + S512x256.size x ≤ S4096x256.size x)

/-- One segment's step: of the window's rows of `out`, those in the segment `[a, b)` take the attention over the
    segment. -/
def segStep (q k : Vec F S4096x128 .bf16) (va : Vec F S4096x256 .bf16) (dpen : Vec F S512x512 .f32) (a b : BitVec 32) (h : Inside a)
    (out : Vec F S4096x128 .f32) : Vec F S4096x128 .f32 :=
  VecWindow.put out (rowsAt a) S512x128.size
    (k0_pay14 a b (aligned a) (VecWindow.window q (rowsAt a) S512x128.size h.1) (VecWindow.window k (rowsAt a) S512x128.size h.1)
      (VecWindow.window va (rowsAt a) S512x256.size h.2) dpen (VecWindow.window out (rowsAt a) S512x128.size h.1))

/-- The first `n` segments' steps in turn, over the contents `d`. -/
def segSteps (q k : Vec F S4096x128 .bf16) (va : Vec F S4096x256 .bf16) (dpen : Vec F S512x512 .f32) (cu : Fin 17 → BitVec 32)
    (h : ∀ n : Fin 16, Inside (cu n.castSucc)) (d : Vec F S4096x128 .f32) : (n : ℕ) → n ≤ 16 → Vec F S4096x128 .f32
  | 0, _ => d
  | n + 1, hn => segStep q k va dpen (cu (Fin.castSucc ⟨n, hn⟩)) (cu (Fin.succ ⟨n, hn⟩)) (h ⟨n, hn⟩) (segSteps q k va dpen cu h d n (by omega))

/-- The value rows widened to 256 lanes: the value in the first 128, then a one in lane 128 and zeros. -/
def wideV (x : Vec F S4096x128 .f32) (w : Vec F S128x384 .f32) (b : Vec F S1x384 .f32) : Vec F S4096x256 .bf16 :=
  VecWindow.put (VecWindow.put (fun _ => (Scalar.ofBits .bf16 0x0000#16 : F .bf16)) ![0, 0] S4096x128.size (k0_pay5 x w b)) ![0, 128] S4096x128.size k0_pay6

/-- The output after the body, from the token block, the joint weight, the joint bias and the boundary words, over the
    contents `d` that it finds there. -/
def attended (x : Vec F S4096x128 .f32) (w : Vec F S128x384 .f32) (b : Vec F S1x384 .f32) (cu : Fin 17 → BitVec 32)
    (h : ∀ n : Fin 16, Inside (cu n.castSucc)) (d : Vec F S4096x128 .f32) : Vec F S4096x128 .f32 :=
  segSteps (k0_pay3 x w b) (k0_pay4 x w b) (wideV x w b) (k0_pay8 k0_pay7) cu h d 16 le_rfl

/-- The two stores that fill the value scratch leave the widened value rows, whatever was there before. -/
theorem read_wide {sg : RefSig} {K : Kind} {sp : Space} (v : View sg K sp S4096x256 .bf16) (f : v.ty.Contents (Elt F))
    (x : Vec F S4096x128 .f32) (w : Vec F S128x384 .f32) (b : Vec F S1x384 .f32) :
    v.read (Elt F) (v.writes (Elt F) f [⟨Rect.unit (s := S4096x256) ![0, 128] S4096x128.size inb_S4096x256_S4096x128_0_128, k0_pay6⟩,
      ⟨Rect.unit (s := S4096x256) ![0, 0] S4096x128.size inb_S4096x256_S4096x128_0_0, k0_pay5 x w b⟩]) = wideV x w b := by
  rw [View.read_writes_cons_put v f _ _ _ rfl, View.read_writes_cons_put v f _ _ _ rfl, View.writes_nil]
  funext y
  have h0 : (y 0).val < 4096 := (y 0).isLt
  have h1 : (y 1).val < 256 := (y 1).isLt
  unfold wideV VecWindow.put
  by_cases hy : ∀ a : Fin 2, (![0, 128] : Fin 2 → ℕ) a ≤ (y a).val ∧ (y a).val < (![0, 128] : Fin 2 → ℕ) a + S4096x128.size a
  · rw [dif_pos hy, dif_pos hy]
  · rw [dif_neg hy, dif_neg hy]
    have hz : ∀ a : Fin 2, (![0, 0] : Fin 2 → ℕ) a ≤ (y a).val ∧ (y a).val < (![0, 0] : Fin 2 → ℕ) a + S4096x128.size a := by
      have h2 : (y 1).val < 128 := by
        by_contra hc
        exact hy (Fin.forall_fin_two.mpr ⟨⟨Nat.zero_le _, by show (y 0).val < 0 + 4096; omega⟩, ⟨by show 128 ≤ (y 1).val; omega, by show (y 1).val < 128 + 128; omega⟩⟩)
      exact Fin.forall_fin_two.mpr ⟨⟨Nat.zero_le _, by show (y 0).val < 0 + 4096; omega⟩, ⟨Nat.zero_le _, by show (y 1).val < 0 + 128; omega⟩⟩
    rw [dif_pos hz, dif_pos hz]

/-- A list of stores with one segment's store at its head reads as the segment's step over what the rest reads. -/
theorem read_step {sg : RefSig} {K : Kind} {sp : Space} (v : View sg K sp S4096x128 .f32) (f : v.ty.Contents (Elt F)) (L : List (View.Piece (Elt F) S4096x128 .f32))
    (q k : Vec F S4096x128 .bf16) (va : Vec F S4096x256 .bf16) (dpen : Vec F S512x512 .f32) (a b : BitVec 32) (h : Inside a) (A : Vec F S4096x128 .f32)
    (hA : v.read (Elt F) (v.writes (Elt F) f L) = A) :
    v.read (Elt F) (v.writes (Elt F) f (⟨Rect.unit (s := S4096x128) (rowsAt a) S512x128.size h.1,
      k0_pay14 a b (aligned a) (VecWindow.window q (rowsAt a) S512x128.size h.1) (VecWindow.window k (rowsAt a) S512x128.size h.1)
        (VecWindow.window va (rowsAt a) S512x256.size h.2) dpen
        (v.readAt (Elt F) (Rect.unit (s := S4096x128) (rowsAt a) S512x128.size h.1).toLoadRect (v.writes (Elt F) f L))⟩ :: L))
      = segStep q k va dpen a b h A := by
  subst hA
  rw [View.read_writes_cons_put v f h.1 _ L rfl]
  rfl

end Cert.KernelIdeal.Gen

end
-- ==== Proof.Bounds.lean ====
/- The preconditions read: where the seventeen boundary words lie, and which arguments are finite. -/
module

public import proofs.«01_k».proof.Pre_segments
public import proofs.«01_k».proof.Pre_finite_segments
public import proofs.«01_k».proof.Proof.Window
public import Idealize.ShloMosaic.Lib.Pointwise

@[expose] public section

set_option maxRecDepth 16384

namespace Cert.Attention

open Idealize.ShloMosaic

instance factsSegments : Cert.Pre_segments.Facts where
  bcast_S_S17 := by decide

instance factsFinite : Cert.Pre_finite_segments.Facts where
  bcast_S_S17 := by decide
  bcast_S_S4096x128 := by decide
  bcast_S_S128x128 := by decide
  bcast_S_S128 := by decide

/-- How far boundary `i` may lie from row `256 * i`: the first and the last are fixed. -/
def slack (i : Fin 17) : ℕ := if i.val = 0 ∨ i.val = 16 then 0 else 100

/-- The boundary words lie in the stated range. -/
def InRange (cu : Fin 17 → BitVec 32) : Prop := ∀ i : Fin 17, 256 * i.val ≤ (cu i).toNat + slack i ∧ (cu i).toNat ≤ 256 * i.val + slack i

/-- The least and the greatest word allowed at place `i`, as the precondition computes them. -/
def slackWord (i : Fin 17) : BitVec 32 :=
  if IntOp.ori (IntOp.cmpi .eq (BitVec.ofNat 32 i.val) 0#32) (IntOp.cmpi .eq (BitVec.ofNat 32 i.val) 16#32) = 1#1 then 0#32 else 100#32
def least (i : Fin 17) : BitVec 32 := 256#32 * BitVec.ofNat 32 i.val - slackWord i
def greatest (i : Fin 17) : BitVec 32 := 256#32 * BitVec.ofNat 32 i.val + slackWord i

theorem least_toNat : ∀ i : Fin 17, (least i).toNat + slack i = 256 * i.val := by decide
theorem greatest_toNat : ∀ i : Fin 17, (greatest i).toNat = 256 * i.val + slack i := by decide

/-- A word between the two bounds lies in the stated range. -/
theorem inRange_of_word (i : Fin 17) (w : BitVec 32) (h : IntOp.andi (IntOp.cmpi .sge w (least i)) (IntOp.cmpi .sle w (greatest i)) = 1#1) :
    256 * i.val ≤ w.toNat + slack i ∧ w.toNat ≤ 256 * i.val + slack i := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true] at h
  obtain ⟨h1, h2⟩ := h
  have hl := least_toNat i
  have hg := greatest_toNat i
  have hs : slack i ≤ 100 := by unfold slack; split <;> omega
  have hi := i.isLt
  rw [BitVec.sle_iff_toInt_le] at h1 h2
  rw [BitVec.toInt_eq_toNat_of_lt (x := least i) (by omega)] at h1
  rw [BitVec.toInt_eq_toNat_of_lt (x := greatest i) (by omega)] at h2
  have hw : 2 * w.toNat < 2 ^ 32 := by
    by_contra hc
    have : w.toInt = (w.toNat : ℤ) - (2 ^ 32 : ℕ) := by rw [BitVec.toInt, if_neg hc]
    have := w.isLt
    omega
  rw [BitVec.toInt_eq_toNat_of_lt hw] at h1 h2
  omega

/-- The precondition `segments`, read. -/
theorem inRange_of_segments {F : FTy → Type} [FloatOps F] (x0 : FVec F Cert.Pre_segments.S4096x128 .f32) (cu : IVec Cert.Pre_segments.S17 32)
    (x2 x3 x4 : FVec F Cert.Pre_segments.S128x128 .f32) (x5 x6 x7 : FVec F Cert.Pre_segments.S128 .f32)
    (h : Cert.Pre_segments.fn x0 cu x2 x3 x4 x5 x6 x7 = fun _ => 1#1) : InRange fun i => cu (ix1 i) := fun i =>
  inRange_of_word i _ (congrFun h (ix1 i))

/-- The precondition `finite_segments`, its first part read. -/
theorem inRange_of_finite {F : FTy → Type} [FloatOps F] (x0 : FVec F Cert.Pre_segments.S4096x128 .f32) (cu : IVec Cert.Pre_segments.S17 32)
    (x2 x3 x4 : FVec F Cert.Pre_segments.S128x128 .f32) (x5 x6 x7 : FVec F Cert.Pre_segments.S128 .f32)
    (h : (Cert.Pre_finite_segments.fn x0 cu x2 x3 x4 x5 x6 x7).1 = fun _ => 1#1) : InRange fun i => cu (ix1 i) := fun i =>
  inRange_of_word i _ (congrFun h (ix1 i))

/-- An extended real that is an ordinary real number. -/
def IsReal (x : EReal) : Prop := x ≠ ⊥ ∧ x ≠ ⊤

/-- What `|x| < ∞` says of an extended real. -/
theorem isReal_of_word (x : EReal) (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  constructor
  · rintro rfl
    simp [Ideal.cmp] at h
  · rintro rfl
    simp [Ideal.cmp] at h

/-- The precondition `finite_segments`, read: the tokens, the query and key weights and their biases are finite. -/
theorem isReal_of_finite (x0 : FVec Ideal Cert.Pre_segments.S4096x128 .f32) (cu : IVec Cert.Pre_segments.S17 32)
    (x2 x3 x4 : FVec Ideal Cert.Pre_segments.S128x128 .f32) (x5 x6 x7 : FVec Ideal Cert.Pre_segments.S128 .f32)
    (h0 : (Cert.Pre_finite_segments.fn x0 cu x2 x3 x4 x5 x6 x7).2.1 = fun _ => 1#1)
    (h2 : (Cert.Pre_finite_segments.fn x0 cu x2 x3 x4 x5 x6 x7).2.2.1 = fun _ => 1#1)
    (h3 : (Cert.Pre_finite_segments.fn x0 cu x2 x3 x4 x5 x6 x7).2.2.2.1 = fun _ => 1#1)
    (h5 : (Cert.Pre_finite_segments.fn x0 cu x2 x3 x4 x5 x6 x7).2.2.2.2.1 = fun _ => 1#1)
    (h6 : (Cert.Pre_finite_segments.fn x0 cu x2 x3 x4 x5 x6 x7).2.2.2.2.2 = fun _ => 1#1) :
    (∀ i, IsReal (x0 i)) ∧ (∀ i, IsReal (x2 i)) ∧ (∀ i, IsReal (x3 i)) ∧ (∀ i, IsReal (x5 i)) ∧ (∀ i, IsReal (x6 i)) :=
  ⟨fun i => isReal_of_word _ (congrFun h0 i), fun i => isReal_of_word _ (congrFun h2 i), fun i => isReal_of_word _ (congrFun h3 i),
    fun i => isReal_of_word _ (congrFun h5 i), fun i => isReal_of_word _ (congrFun h6 i)⟩

end Cert.Attention
-- ==== Proof.SegmentRows.lean ====
/- Which rows a segment's step writes, and that under the stated range of the boundary words the sixteen steps write
   every row once, whatever the output held before. -/
module

public import proofs.«01_k».proof.Proof.Segments
public import proofs.«01_k».proof.Proof.Bounds
public import Idealize.ShloMosaic.Lib.Pointwise

@[expose] public section

set_option maxRecDepth 16384

noncomputable section

namespace Cert.Attention

open Idealize.ShloMosaic

/-- The word test "row `i` of the window at row `s` lies in `[a, b)`". -/
def inSegment (a b s : BitVec 32) (i : ℕ) : BitVec 1 :=
  IntOp.andi (IntOp.cmpi .sge (BitVec.ofNat 32 i) (a - s)) (IntOp.cmpi .slt (BitVec.ofNat 32 i) (b - s))

/-- The word test on small words is the comparison of naturals. -/
theorem inSegment_eq (a b s : BitVec 32) (i : ℕ) (hi : i < 512) (hs : s.toNat ≤ a.toNat) (hab : a.toNat ≤ b.toNat) (hb : b.toNat ≤ 4096) :
    inSegment a b s i = if a.toNat ≤ s.toNat + i ∧ s.toNat + i < b.toNat then 1#1 else 0#1 := by
  have ea : (a - s).toNat = a.toNat - s.toNat := BitVec.toNat_sub_of_le (by rw [BitVec.le_def]; exact hs)
  have eb : (b - s).toNat = b.toNat - s.toNat := BitVec.toNat_sub_of_le (by rw [BitVec.le_def]; omega)
  have ei : (BitVec.ofNat 32 i).toNat = i := by rw [BitVec.toNat_ofNat]; omega
  unfold inSegment
  simp only [IntOp.cmpi]
  rw [sle_small _ _ (by omega) (by omega), slt_small _ _ (by omega) (by omega), ea, eb, ei]
  by_cases h1 : a.toNat - s.toNat ≤ i <;> by_cases h2 : i < b.toNat - s.toNat
  · rw [if_pos (by omega), decide_eq_true h1, decide_eq_true h2]; rfl
  · rw [if_neg (by omega), decide_eq_true h1, decide_eq_false h2]; rfl
  · rw [if_neg (by omega), decide_eq_false h1, decide_eq_true h2]; rfl
  · rw [if_neg (by omega), decide_eq_false h1, decide_eq_false h2]; rfl

/-- What the range says of two neighbouring boundaries and of the window of the segment between them. -/
structure Span (a b : BitVec 32) : Prop where
  lt : a.toNat < b.toNat
  top : b.toNat ≤ 4096
  start : (aligned a).toNat ≤ a.toNat
  stop : b.toNat ≤ (aligned a).toNat + 512
  room : (aligned a).toNat + 512 ≤ 4096

theorem slack_le (i : Fin 17) : slack i ≤ 100 := by unfold slack; split <;> omega

/-- Neighbouring boundary words in the stated range span a segment that its window holds. -/
theorem InRange.span {cu : Fin 17 → BitVec 32} (h : InRange cu) (n : Fin 16) : Span (cu n.castSucc) (cu n.succ) := by
  have h1 := h n.castSucc
  have h2 := h n.succ
  have s1 := slack_le n.castSucc
  have s2 := slack_le n.succ
  have hn := n.isLt
  have e1 : (n.castSucc : Fin 17).val = n.val := rfl
  have e2 : (n.succ : Fin 17).val = n.val + 1 := rfl
  rw [e1] at h1
  rw [e2] at h2
  have ht : (cu n.succ).toNat ≤ 4096 := by
    by_cases hc : n.val = 15
    · have : slack n.succ = 0 := by unfold slack; rw [if_pos (by omega)]
      omega
    · omega
  have ea := aligned_toNat (cu n.castSucc) (by omega)
  refine ⟨by omega, ht, ?_, ?_, ?_⟩ <;> rw [ea] <;> omega

/-- The boundary words ascend. -/
theorem InRange.mono {cu : Fin 17 → BitVec 32} (h : InRange cu) (i j : Fin 17) (hij : i ≤ j) : (cu i).toNat ≤ (cu j).toNat := by
  have h1 := h i
  have h2 := h j
  have s1 := slack_le i
  have s2 := slack_le j
  rcases eq_or_lt_of_le hij with e | e
  · rw [e]
  · have : i.val < j.val := e
    omega

/-- The first boundary is zero and the last is 4096. -/
theorem InRange.first {cu : Fin 17 → BitVec 32} (h : InRange cu) : (cu 0).toNat = 0 := by
  have h1 := h 0
  have : slack 0 = 0 := by decide
  have e : ((0 : Fin 17) : ℕ) = 0 := rfl
  rw [this, e] at h1
  omega
theorem InRange.last {cu : Fin 17 → BitVec 32} (h : InRange cu) : (cu (Fin.last 16)).toNat = 4096 := by
  have h1 := h (Fin.last 16)
  have : slack (Fin.last 16) = 0 := by decide
  have e : ((Fin.last 16 : Fin 17) : ℕ) = 16 := rfl
  rw [this, e] at h1
  omega

/-- Row `r` belongs to a segment. -/
theorem InRange.segment {cu : Fin 17 → BitVec 32} (h : InRange cu) (r : ℕ) (hr : r < 4096) :
    ∃ n : Fin 16, (cu n.castSucc).toNat ≤ r ∧ r < (cu n.succ).toNat := by
  by_contra hc
  push Not at hc
  have key : ∀ n : ℕ, ∀ hn : n < 17, (cu ⟨n, hn⟩).toNat ≤ r := by
    intro n
    induction n with
    | zero => intro hn; have := h.first; rw [show (⟨0, hn⟩ : Fin 17) = 0 from rfl]; omega
    | succ k ih => intro hn; exact hc ⟨k, by omega⟩ (ih (by omega))
  have := key 16 (by omega)
  have e := h.last
  rw [show (⟨16, by omega⟩ : Fin 17) = Fin.last 16 from rfl] at this
  omega

end Cert.Attention

namespace Cert.KernelIdeal.Gen

open Idealize.ShloMosaic Idealize.ShloMosaic.TcCoe Idealize.SL.Sem
open Cert.Attention

variable {F : FTy → Type} [FloatOps F] [Named F]

/-- A row of the window inside the segment does not show what the output held. -/
theorem pay_hit (a b s : BitVec 32) (q k : Vec F S512x128 .bf16) (va : Vec F S512x256 .bf16) (dpen : Vec F S512x512 .f32) (cur cur' : Vec F S512x128 .f32)
    (i : Fin 512) (l : Fin 128) (h : inSegment a b s i = 1#1) : k0_pay14 a b s q k va dpen cur (ix2 i l) = k0_pay14 a b s q k va dpen cur' (ix2 i l) := by
  pointwise [k0_pay14]
  show Scalar.select (inSegment a b s i) _ _ = Scalar.select (inSegment a b s i) _ _
  rw [h]
  rfl

/-- A row of the window outside the segment keeps what the output held. -/
theorem pay_miss (a b s : BitVec 32) (q k : Vec F S512x128 .bf16) (va : Vec F S512x256 .bf16) (dpen : Vec F S512x512 .f32) (cur : Vec F S512x128 .f32)
    (i : Fin 512) (l : Fin 128) (h : inSegment a b s i = 0#1) : k0_pay14 a b s q k va dpen cur (ix2 i l) = cur (ix2 i l) := by
  pointwise [k0_pay14]
  show Scalar.select (inSegment a b s i) _ _ = _
  rw [h]
  rfl

/-- The window of a segment lies inside the rows. -/
theorem Inside.of_span {a b : BitVec 32} (h : Span a b) : Inside a := by
  have := h.room
  refine ⟨Fin.forall_fin_two.mpr ⟨?_, ?_⟩, Fin.forall_fin_two.mpr ⟨?_, ?_⟩⟩
  · show (aligned a).toNat + 512 ≤ 4096; omega
  · show 0 + 128 ≤ 128; omega
  · show (aligned a).toNat + 512 ≤ 4096; omega
  · show 0 + 256 ≤ 256; omega

variable (q k : Vec F S4096x128 .bf16) (va : Vec F S4096x256 .bf16) (dpen : Vec F S512x512 .f32)

/-- The attention over the segment `[a, b)` at row `i` of its window. -/
def segRow (a b : BitVec 32) (h : Inside a) (i : Fin 512) (l : Fin 128) : F .f32 :=
  k0_pay14 a b (aligned a) (VecWindow.window q (rowsAt a) S512x128.size h.1) (VecWindow.window k (rowsAt a) S512x128.size h.1)
    (VecWindow.window va (rowsAt a) S512x256.size h.2) dpen (fun _ => (Scalar.ofBits .f32 0x00000000#32 : F .f32)) (ix2 i l)

/-- A segment's step leaves the attention over the segment in each of its rows. -/
theorem segStep_hit {a b : BitVec 32} (hs : Span a b) (h : Inside a) (out : Vec F S4096x128 .f32) (i : Fin 512) (r : Fin 4096) (l : Fin 128)
    (hi : r.val = (aligned a).toNat + i.val) (h1 : a.toNat ≤ r) (h2 : r < b.toNat) :
    segStep q k va dpen a b h out (ix2 r l) = segRow q k va dpen a b h i l := by
  have hy : ∀ x : Fin 2, rowsAt a x ≤ ((ix2 r l : S4096x128.Idx) x).val ∧ ((ix2 r l : S4096x128.Idx) x).val < rowsAt a x + S512x128.size x :=
    Fin.forall_fin_two.mpr ⟨⟨by show (aligned a).toNat ≤ r.val; omega, by show r.val < (aligned a).toNat + 512; omega⟩,
      ⟨Nat.zero_le _, by show l.val < 0 + 128; omega⟩⟩
  unfold segStep VecWindow.put
  rw [dif_pos hy]
  have e : Rect.unitLocal (ix2 r l : S4096x128.Idx) hy = (ix2 i l : S512x128.Idx) := by
    funext x
    apply Fin.ext
    revert x
    exact Fin.forall_fin_two.mpr ⟨by show r.val - (aligned a).toNat = i.val; omega, by show l.val - 0 = l.val; omega⟩
  rw [e]
  refine pay_hit _ _ _ _ _ _ _ _ _ i l ?_
  rw [inSegment_eq a b (aligned a) i i.isLt hs.start hs.lt.le hs.top, if_pos ⟨by omega, by omega⟩]

/-- A segment's step leaves the other rows as they were. -/
theorem segStep_miss {a b : BitVec 32} (hs : Span a b) (h : Inside a) (out : Vec F S4096x128 .f32) (r : Fin 4096) (l : Fin 128)
    (hr : ¬ (a.toNat ≤ r ∧ r < b.toNat)) : segStep q k va dpen a b h out (ix2 r l) = out (ix2 r l) := by
  unfold segStep VecWindow.put
  by_cases hy : ∀ x : Fin 2, rowsAt a x ≤ ((ix2 r l : S4096x128.Idx) x).val ∧ ((ix2 r l : S4096x128.Idx) x).val < rowsAt a x + S512x128.size x
  · rw [dif_pos hy]
    have g1 : (aligned a).toNat ≤ r.val := (hy 0).1
    have g2 : r.val < (aligned a).toNat + 512 := (hy 0).2
    have e : Rect.unitLocal (ix2 r l : S4096x128.Idx) hy = (ix2 (⟨r.val - (aligned a).toNat, by omega⟩ : Fin 512) l : S512x128.Idx) := by
      funext x
      apply Fin.ext
      revert x
      exact Fin.forall_fin_two.mpr ⟨rfl, rfl⟩
    rw [e, pay_miss]
    · unfold VecWindow.window
      refine congrArg out (funext fun x => Fin.ext ?_)
      revert x
      exact Fin.forall_fin_two.mpr ⟨by show (aligned a).toNat + 1 * (r.val - (aligned a).toNat) = r.val; omega, by show 0 + 1 * l.val = l.val; omega⟩
    · rw [inSegment_eq a b (aligned a) _ (by show r.val - (aligned a).toNat < 512; omega) hs.start hs.lt.le hs.top, if_neg]
      show ¬ (_ ≤ (aligned a).toNat + (r.val - (aligned a).toNat) ∧ (aligned a).toNat + (r.val - (aligned a).toNat) < _)
      rw [Nat.add_sub_cancel' g1]
      exact hr
  · rw [dif_neg hy]

/-- After all the steps a row holds the attention over the segment it belongs to. -/
theorem segSteps_row {cu : Fin 17 → BitVec 32} (hcu : InRange cu) (h : ∀ n : Fin 16, Inside (cu n.castSucc)) (d : Vec F S4096x128 .f32)
    (n : Fin 16) (i : Fin 512) (r : Fin 4096) (l : Fin 128) (hi : r.val = (aligned (cu n.castSucc)).toNat + i.val)
    (h1 : (cu n.castSucc).toNat ≤ r) (h2 : r < (cu n.succ).toNat) :
    ∀ (k' : ℕ) (hk : k' ≤ 16), n.val < k' → segSteps q k va dpen cu h d k' hk (ix2 r l) = segRow q k va dpen (cu n.castSucc) (cu n.succ) (h n) i l := by
  intro k'
  induction k' with
  | zero => intro _ hn; omega
  | succ j ih =>
    intro hk hn
    show segStep q k va dpen (cu (Fin.castSucc ⟨j, hk⟩)) (cu (Fin.succ ⟨j, hk⟩)) (h ⟨j, hk⟩) (segSteps q k va dpen cu h d j (by omega)) (ix2 r l) = _
    by_cases hj : j = n.val
    · obtain rfl : n = ⟨j, hk⟩ := Fin.ext hj.symm
      exact segStep_hit q k va dpen (hcu.span _) _ _ i r l hi h1 h2
    · rw [segStep_miss q k va dpen (hcu.span ⟨j, hk⟩)]
      · exact ih (by omega) (by omega)
      · have := hcu.mono n.succ (Fin.castSucc ⟨j, hk⟩) (by show n.val + 1 ≤ j; omega)
        omega

/-- The rows of the segment lie in its window. -/
theorem row_local {a b : BitVec 32} (hs : Span a b) (r : Fin 4096) (h1 : a.toNat ≤ r) (h2 : r < b.toNat) :
    ∃ i : Fin 512, r.val = (aligned a).toNat + i.val := by
  have := hs.start
  have := hs.stop
  exact ⟨⟨r.val - (aligned a).toNat, by omega⟩, by show r.val = (aligned a).toNat + (r.val - (aligned a).toNat); omega⟩

/-- The output does not show what it held before. -/
theorem attended_covers {cu : Fin 17 → BitVec 32} (hcu : InRange cu) (h : ∀ n : Fin 16, Inside (cu n.castSucc))
    (x : Vec F S4096x128 .f32) (w : Vec F S128x384 .f32) (b : Vec F S1x384 .f32) (d d' : Vec F S4096x128 .f32) :
    attended x w b cu h d = attended x w b cu h d' := by
  funext y
  rw [show y = ix2 (y 0) (y 1) from eq_ix2 y]
  obtain ⟨n, h1, h2⟩ := hcu.segment (y 0).val (y 0).isLt
  obtain ⟨i, hi⟩ := row_local (hcu.span n) (y 0) h1 h2
  unfold attended
  exact (segSteps_row _ _ _ _ hcu h d n i (y 0) (y 1) hi h1 h2 16 le_rfl n.isLt).trans
    (segSteps_row _ _ _ _ hcu h d' n i (y 0) (y 1) hi h1 h2 16 le_rfl n.isLt).symm

end Cert.KernelIdeal.Gen

end
-- ==== Proof.KernelWords.lean ====
/- From the stated range of the boundary words: the run of the kernel as it stands, its arguments unchanged. -/
module

public import proofs.«01_k».proof.Proof.PlainFrame
public import proofs.«01_k».proof.Proof.SegmentRows

@[expose] public section

set_option maxRecDepth 16384

noncomputable section

namespace Cert.Kernel.Gen

open Idealize.ShloMosaic Idealize.ShloMosaic.TcCoe Idealize.ShloMosaic.Tactic Idealize.SL.Sem
open Cert.Attention

variable {F : FTy → Type} [FloatOps F]
variable (m : (ℓ : Loc nD τ sig) → Buf (Elt F) ℓ) (ρ : Dev nD → PrngReg)

/-- Boundary word `n` as the run finds it in memory. -/
def word (c : Dev nD) (n : Fin 17) : BitVec 32 := m ((c : Thread nD τ).loc main_arg1) (ix1 n)

/-- Boundary word `n` as the body reads it. -/
def boundary (c : Dev nD) (n : Fin 17) : BitVec 32 :=
  tbM0_0.view.readAt (Elt F) (Rect.unit (s := S17) ![n.val] S1.size (Fin.forall_fin_one.mpr (by
    show n.val + 1 ≤ 17
    omega))).toLoadRect (tbl m 0) (Shape.Idx.first (numel1_S1.symm ▸ Nat.one_pos))

/-- The body reads the boundary words of the argument array. -/
theorem boundary_word (c : Dev nD) (n : Fin 17) : boundary m c n = word m c n := by
  obtain rfl : c = 0 := Subsingleton.elim _ _
  have e : tbl m 0 = m (((0 : Dev nD) : Thread nD τ).loc main_arg1) := V_main_arg1 m 0
  unfold boundary word
  rw [e]
  refine congrArg (m (((0 : Dev nD) : Thread nD τ).loc main_arg1)) (funext fun x => Fin.ext ?_)
  revert x
  exact Fin.forall_fin_one.mpr rfl

/-- The boundary words lie in the stated range on every device. -/
def InRangeAll : Prop := ∀ c : Dev nD, InRange (word m c)

variable {m}

/-- Each segment's window lies inside the rows. -/
theorem InRangeAll.inside (h : InRangeAll m) (c : Dev nD) (n : Fin 16) : Cert.KernelIdeal.Gen.Inside (boundary m c n.castSucc) := by
  rw [boundary_word]
  exact Cert.KernelIdeal.Gen.Inside.of_span ((h c).span n)

theorem InRangeAll.hyps (h : InRangeAll m) (hO : Ok m) : Hyps m hO :=
  Hyps.of (fun c _ => h.inside c 0) (fun c _ => h.inside c 1) (fun c _ => h.inside c 2) (fun c _ => h.inside c 3)
    (fun c _ => h.inside c 4) (fun c _ => h.inside c 5) (fun c _ => h.inside c 6) (fun c _ => h.inside c 7)
    (fun c _ => h.inside c 8) (fun c _ => h.inside c 9) (fun c _ => h.inside c 10) (fun c _ => h.inside c 11)
    (fun c _ => h.inside c 12) (fun c _ => h.inside c 13) (fun c _ => h.inside c 14) (fun c _ => h.inside c 15)

end Cert.Kernel.Gen

end
-- ==== Proof.KernelRun.lean ====
/- The body of the kernel, run: from whole staging buffers it leaves the output at `attended` of what the inputs and the
   boundary table hold. -/
module

public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import proofs.«01_k».proof.Proof.Segments

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 2556000 in
/-- The body's triple: the inputs keep their contents, the output ends at the sixteen segments' steps over what it held,
    and the scratch buffers end at some contents. -/
theorem kernelRun (c : Dev nD) (i : grid0.Coords) (arg2 : Memref sig .tc .vmem S4096x128 .f32) (harg2 : arg2.IsWhole) (arg3 : Memref sig .tc .vmem S128x384 .f32) (harg3 : arg3.IsWhole) (arg4 : Memref sig .tc .vmem S1x384 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .bf16) (harg7 : arg7.IsWhole) (arg8 : Memref sig .tc .vmem S4096x256 .bf16) (harg8 : arg8.IsWhole) (arg9 : Memref sig .tc .vmem S512x512 .f32) (harg9 : arg9.IsWhole)
    (x0 : Vec F S4096x128 .f32) (x1 : Vec F S128x384 .f32) (x2 : Vec F S1x384 .f32) (xt0 : TbBuf0 (F := F) c tbM0_0) (k0_hw1 : k0_chk1 (tbM0_0.view.readAt (Elt F) (Rect.unit (s := S17) ![0] S1.size inb_S17_S1_0).toLoadRect xt0 (Shape.Idx.first (numel1_S1.symm ▸ Nat.one_pos)))) (k0_hw2 : k0_chk2 (tbM0_0.view.readAt (Elt F) (Rect.unit (s := S17) ![1] S1.size inb_S17_S1_1).toLoadRect xt0 (Shape.Idx.first (numel1_S1.symm ▸ Nat.one_pos)))) (k0_hw3 : k0_chk3 (tbM0_0.view.readAt (Elt F) (Rect.unit (s := S17) ![2] S1.size inb_S17_S1_2).toLoadRect xt0 (Shape.Idx.first (numel1_S1.symm ▸ Nat.one_pos)))) (k0_hw4 : k0_chk4 (tbM0_0.view.readAt (Elt F) (Rect.unit (s := S17) ![3] S1.size inb_S17_S1_3).toLoadRect xt0 (Shape.Idx.first (numel1_S1.symm ▸ Nat.one_pos)))) (k0_hw5 : k0_chk5 (tbM0_0.view.readAt (Elt F) (Rect.unit (s := S17) ![4] S1.size inb_S17_S1_4).toLoadRect xt0 (Shape.Idx.first (numel1_S1.symm ▸ Nat.one_pos)))) (k0_hw6 : k0_chk6 (tbM0_0.view.readAt (Elt F) (Rect.unit (s := S17) ![5] S1.size inb_S17_S1_5).toLoadRect xt0 (Shape.Idx.first (numel1_S1.symm ▸ Nat.one_pos)))) (k0_hw7 : k0_chk7 (tbM0_0.view.readAt (Elt F) (Rect.unit (s := S17) ![6] S1.size inb_S17_S1_6).toLoadRect xt0 (Shape.Idx.first (numel1_S1.symm ▸ Nat.one_pos)))) (k0_hw8 : k0_chk8 (tbM0_0.view.readAt (Elt F) (Rect.unit (s := S17) ![7] S1.size inb_S17_S1_7).toLoadRect xt0 (Shape.Idx.first (numel1_S1.symm ▸ Nat.one_pos)))) (k0_hw9 : k0_chk9 (tbM0_0.view.readAt (Elt F) (Rect.unit (s := S17) ![8] S1.size inb_S17_S1_8).toLoadRect xt0 (Shape.Idx.first (numel1_S1.symm ▸ Nat.one_pos)))) (k0_hw10 : k0_chk10 (tbM0_0.view.readAt (Elt F) (Rect.unit (s := S17) ![9] S1.size inb_S17_S1_9).toLoadRect xt0 (Shape.Idx.first (numel1_S1.symm ▸ Nat.one_pos)))) (k0_hw11 : k0_chk11 (tbM0_0.view.readAt (Elt F) (Rect.unit (s := S17) ![10] S1.size inb_S17_S1_10).toLoadRect xt0 (Shape.Idx.first (numel1_S1.symm ▸ Nat.one_pos)))) (k0_hw12 : k0_chk12 (tbM0_0.view.readAt (Elt F) (Rect.unit (s := S17) ![11] S1.size inb_S17_S1_11).toLoadRect xt0 (Shape.Idx.first (numel1_S1.symm ▸ Nat.one_pos)))) (k0_hw13 : k0_chk13 (tbM0_0.view.readAt (Elt F) (Rect.unit (s := S17) ![12] S1.size inb_S17_S1_12).toLoadRect xt0 (Shape.Idx.first (numel1_S1.symm ▸ Nat.one_pos)))) (k0_hw14 : k0_chk14 (tbM0_0.view.readAt (Elt F) (Rect.unit (s := S17) ![13] S1.size inb_S17_S1_13).toLoadRect xt0 (Shape.Idx.first (numel1_S1.symm ▸ Nat.one_pos)))) (k0_hw15 : k0_chk15 (tbM0_0.view.readAt (Elt F) (Rect.unit (s := S17) ![14] S1.size inb_S17_S1_14).toLoadRect xt0 (Shape.Idx.first (numel1_S1.symm ▸ Nat.one_pos)))) (k0_hw16 : k0_chk16 (tbM0_0.view.readAt (Elt F) (Rect.unit (s := S17) ![15] S1.size inb_S17_S1_15).toLoadRect xt0 (Shape.Idx.first (numel1_S1.symm ▸ Nat.one_pos))))
    (hin : ∀ n : Fin 16, Inside (boundary c xt0 n.castSucc)) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ tbPt0 c tbM0_0 xt0
            ∗ (iprop(owns (c : Thread nD τ) arg2 fullShare x0 ∗ owns (c : Thread nD τ) arg3 fullShare x1 ∗ owns (c : Thread nD τ) arg4 fullShare x2 ∗ (∃ d, owns (c : Thread nD τ) arg5 fullShare (attended x0 x1 x2 (boundary c xt0) hin d)) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ tbPt0 c tbM0_0 xt0) -∗ K ⟨⟩))
          ⊢ wp frame (wpE (defs₀ (F := F)) Variants.none c none) E (cc0__seg_attn_kernel i tbM0_0 htbM0_0 arg2 harg2 arg3 harg3 arg4 harg4 arg5 harg5 arg6 harg6 arg7 harg7 arg8 harg8 arg9 harg9) K := by
    intro E K
    simp only [cc0__seg_attn_kernel_eq_skeleton]; unfold cc0__seg_attn_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, HT0, Hk⟩
    obtain rfl := harg2.eq_unread hf0; obtain rfl := harg3.eq_unread hf1; obtain rfl := harg4.eq_unread hf2
    sl_exec (disch := first | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12 | sl_exact k0_hw13 | sl_exact k0_hw14 | sl_exact k0_hw15 | sl_exact k0_hw16)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists (arg5.view.read (Elt F) f3), _; isplitr; swap; · iexact H3
      ipureintro
      have e0 : arg2.view.readAt (Elt F) (Rect.unit (s := S4096x128) ![0, 0] S4096x128.size inb_S4096x128_S4096x128_0_0).toLoadRect (harg2.unread x0) = x0 :=
        (View.readAt_full _ _ _).trans (harg2.read_unread x0)
      have e1 : arg3.view.readAt (Elt F) (Rect.unit (s := S128x384) ![0, 0] S128x384.size inb_S128x384_S128x384_0_0).toLoadRect (harg3.unread x1) = x1 :=
        (View.readAt_full _ _ _).trans (harg3.read_unread x1)
      have e2 : arg4.view.readAt (Elt F) (Rect.unit (s := S1x384) ![0, 0] S1x384.size inb_S1x384_S1x384_0_0).toLoadRect (harg4.unread x2) = x2 :=
        (View.readAt_full _ _ _).trans (harg4.read_unread x2)
      have hq : arg6.view.read (Elt F) (arg6.view.writes (Elt F) arg6.view.junk (kernelRun.sl.HS0_1 c arg2 harg2 arg3 harg3 arg4 harg4 x0 x1 x2)) = k0_pay3 x0 x1 x2 := by
        unfold kernelRun.sl.HS0_1
        rw [e0, e1, e2]
        exact View.read_writes_full _ _ _ _ _
      have hk : arg7.view.read (Elt F) (arg7.view.writes (Elt F) arg7.view.junk (kernelRun.sl.HS1_1 c arg2 harg2 arg3 harg3 arg4 harg4 x0 x1 x2)) = k0_pay4 x0 x1 x2 := by
        unfold kernelRun.sl.HS1_1
        rw [e0, e1, e2]
        exact View.read_writes_full _ _ _ _ _
      have hv : arg8.view.read (Elt F) (arg8.view.writes (Elt F) arg8.view.junk (kernelRun.sl.HS2_2 c arg2 harg2 arg3 harg3 arg4 harg4 x0 x1 x2)) = wideV x0 x1 x2 := by
        unfold kernelRun.sl.HS2_2
        rw [e0, e1, e2]
        exact read_wide _ _ _ _ _
      have hp : kernelRun.sl.v82 (F := F) c arg9 = k0_pay8 k0_pay7 := View.readCov_full _ _ _ _ _
      unfold attended
      rw [← hq, ← hk, ← hv, ← hp]
      exact read_step arg5.view f3 _ _ _ _ _ _ _ (hin 15) _ <|
        read_step arg5.view f3 _ _ _ _ _ _ _ (hin 14) _ <|
        read_step arg5.view f3 _ _ _ _ _ _ _ (hin 13) _ <|
        read_step arg5.view f3 _ _ _ _ _ _ _ (hin 12) _ <|
        read_step arg5.view f3 _ _ _ _ _ _ _ (hin 11) _ <|
        read_step arg5.view f3 _ _ _ _ _ _ _ (hin 10) _ <|
        read_step arg5.view f3 _ _ _ _ _ _ _ (hin 9) _ <|
        read_step arg5.view f3 _ _ _ _ _ _ _ (hin 8) _ <|
        read_step arg5.view f3 _ _ _ _ _ _ _ (hin 7) _ <|
        read_step arg5.view f3 _ _ _ _ _ _ _ (hin 6) _ <|
        read_step arg5.view f3 _ _ _ _ _ _ _ (hin 5) _ <|
        read_step arg5.view f3 _ _ _ _ _ _ _ (hin 4) _ <|
        read_step arg5.view f3 _ _ _ _ _ _ _ (hin 3) _ <|
        read_step arg5.view f3 _ _ _ _ _ _ _ (hin 2) _ <|
        read_step arg5.view f3 _ _ _ _ _ _ _ (hin 1) _ <|
        read_step arg5.view f3 _ _ _ _ _ _ _ (hin 0) _ rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexact HT0

end Cert.KernelIdeal.Gen

end
-- ==== Proof.KernelFrame.lean ====
/- The launch of the idealized kernel: its proof data, the body's obligation, and the run, with the output named. -/
module

public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import proofs.«01_k».proof.Proof.KernelRun
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The pipeline's proof data -/

/-- What the boundary words must satisfy: the side conditions that the body assumes of them, every segment's window
    inside the rows, and the segments covering the rows, so that what the output held before does not show. -/
structure Served (hO : Ok m) : Prop where
  hyps : Hyps m hO
  inside : ∀ (c : Dev nD) (n : Fin 16), Inside (boundary (F := F) c (tbl m 0) n.castSucc)
  covers : ∀ (c : Dev nD) (x : Vec F S4096x128 .f32) (w : Vec F S128x384 .f32) (b : Vec F S1x384 .f32) (d d' : Vec F S4096x128 .f32),
    attended x w b (boundary (F := F) c (tbl m 0)) (inside c) d = attended x w b (boundary (F := F) c (tbl m 0)) (inside c) d'

/-- The block of window `w` at its literal type: tokens, joint weight, joint bias. -/
abbrev blkX (hO : Ok m) (c : Dev nD) (t : Fin (cfgM m hO).N) : Vec F S4096x128 .f32 := iblk m hO c 0 t
abbrev blkW (hO : Ok m) (c : Dev nD) (t : Fin (cfgM m hO).N) : Vec F S128x384 .f32 := iblk m hO c 1 t
abbrev blkB (hO : Ok m) (c : Dev nD) (t : Fin (cfgM m hO).N) : Vec F S1x384 .f32 := iblk m hO c 2 t

/-- What the body leaves in the output's buffer at point `t`. -/
def outAt (hO : Ok m) (hS : Served m hO) (c : Dev nD) (t : Fin (cfgM m hO).N) : Vec F S4096x128 .f32 :=
  attended (blkX m hO c t) (blkW m hO c t) (blkB m hO c t) (boundary (F := F) c (tbl m 0)) (hS.inside c) (fun _ => (Scalar.ofBits .f32 0x00000000#32 : F .f32))

/-- The proof data of the one pipeline on core `c`: the arrays as the region finds them (`V`); after the body at
    point `t` each input's buffer at its block and the output's at `outAt`; the invariant `ΦA` (the scoped rest and the generator register) and the tables' halves (`ΦT`); nothing owed;
    full shares. -/
def dats (hO : Ok m) (hS : Served m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outAt m hO hS c t
  Φ _ := iprop(Pipeline.ΦA spec0 c ∗ Pipeline.ΦT pre0 (tbl m) c)
  q _ := fullShare
  owed _ := 0

/-- The proof data's arrays are the region-entry contents: the proof data's definition projected. -/
theorem A_eq (hO : Ok m) (hS : Served m hO) (c : Dev nD) (w : Fin (cfgM m hO).W) : (dats m hO hS 0 c).A w = V m c (Pipeline.arrRef spec0 w) := by
  dsimp only [dats]

/-- What the body leaves, window by window. -/
theorem after0_0 (hO : Ok m) (hS : Served m hO) (c : Dev nD) (t : Fin (cfgM m hO).N) : (dats m hO hS 0 c).after 0 t = iblk m hO c 0 t := by dsimp only [dats]; try rfl
theorem after0_1 (hO : Ok m) (hS : Served m hO) (c : Dev nD) (t : Fin (cfgM m hO).N) : (dats m hO hS 0 c).after 1 t = iblk m hO c 1 t := by dsimp only [dats]; try rfl
theorem after0_2 (hO : Ok m) (hS : Served m hO) (c : Dev nD) (t : Fin (cfgM m hO).N) : (dats m hO hS 0 c).after 2 t = iblk m hO c 2 t := by dsimp only [dats]; try rfl
theorem after0_3 (hO : Ok m) (hS : Served m hO) (c : Dev nD) (t : Fin (cfgM m hO).N) : (dats m hO hS 0 c).after 3 t = outAt m hO hS c t := by dsimp only [dats]; try rfl

/-- Each input's current staging buffer holds its block at every point, fetched there or not (`beforeK_W_of`). -/
theorem before0_0 (hO : Ok m) (hS : Served m hO) (c : Dev nD) (t : Fin (cfgM m hO).N) (d) : (dats m hO hS 0 c).before 0 t d = iblk m hO c 0 t :=
  before0_0_of m hO (dats m hO hS 0 c) (A_eq m hO hS c 0) (after0_0 m hO hS c) t d
theorem before0_1 (hO : Ok m) (hS : Served m hO) (c : Dev nD) (t : Fin (cfgM m hO).N) (d) : (dats m hO hS 0 c).before 1 t d = iblk m hO c 1 t :=
  before0_1_of m hO (dats m hO hS 0 c) (A_eq m hO hS c 1) (after0_1 m hO hS c) t d
theorem before0_2 (hO : Ok m) (hS : Served m hO) (c : Dev nD) (t : Fin (cfgM m hO).N) (d) : (dats m hO hS 0 c).before 2 t d = iblk m hO c 2 t :=
  before0_2_of m hO (dats m hO hS 0 c) (A_eq m hO hS c 2) (after0_2 m hO hS c) t d

/-! ## The body obligation, at a generic point -/

/-- What the body is called with at point `t` (`BodyObligation`'s precondition, the windows one by one), -/
def bodyPre (hO : Ok m) (hS : Served m hO) (c : Dev nD) (t : Fin (cfgM m hO).N) : sProp 𝕄 :=
  iprop((dats m hO hS 0 c).Φ t.castSucc ∗ (dats m hO hS 0 c).owesAt () t.castSucc
    ∗ (∃ d, owns (c : Thread nD τ) (ms0_0 m hO t) fullShare ((dats m hO hS 0 c).before 0 t d))
    ∗ (∃ d, owns (c : Thread nD τ) (ms0_1 m hO t) fullShare ((dats m hO hS 0 c).before 1 t d))
    ∗ (∃ d, owns (c : Thread nD τ) (ms0_2 m hO t) fullShare ((dats m hO hS 0 c).before 2 t d))
    ∗ (∃ d, owns (c : Thread nD τ) (ms0_3 m hO t) fullShare ((dats m hO hS 0 c).before 3 t d)))

/-- and what it returns. -/
def bodyPost (hO : Ok m) (hS : Served m hO) (c : Dev nD) (t : Fin (cfgM m hO).N) : sProp 𝕄 :=
  iprop((dats m hO hS 0 c).Φ t.succ ∗ (dats m hO hS 0 c).owesAt () t.succ
    ∗ owns (c : Thread nD τ) (ms0_0 m hO t) fullShare ((dats m hO hS 0 c).after 0 t)
    ∗ owns (c : Thread nD τ) (ms0_1 m hO t) fullShare ((dats m hO hS 0 c).after 1 t)
    ∗ owns (c : Thread nD τ) (ms0_2 m hO t) fullShare ((dats m hO hS 0 c).after 2 t)
    ∗ owns (c : Thread nD τ) (ms0_3 m hO t) fullShare ((dats m hO hS 0 c).after 3 t))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (hO : Ok m) (hS : Served m hO) (c : Dev nD) (t : Fin (cfgM m hO).N) :
    bodyPre m hO hS c t ⊢ wp frame (wpE (defs₀ (F := F)) Variants.none c none) Set.univ (bodyAt0 (adm m hO) t) (fun _ => bodyPost m hO hS c t) := by
  unfold bodyPre bodyPost bodyAt0
  simp only [before0_0, before0_1, before0_2]
  rw [show (dats m hO hS 0 c).Φ t.succ = (dats m hO hS 0 c).Φ t.castSucc from rfl,
    show (dats m hO hS 0 c).owesAt () t.succ = (dats m hO hS 0 c).owesAt () t.castSucc from rfl,
    after0_0, after0_1, after0_2, after0_3]
  rw [show (dats m hO hS 0 c).Φ t.castSucc = iprop(Pipeline.ΦA spec0 c ∗ Pipeline.ΦT pre0 (tbl m) c) from rfl, PhiT0_eq, PhiA0_eq]
  iintro ⟨⟨⟨⟨HS0, HS1, HS2, HS3⟩, Hg⟩, HT0⟩, Ho, ⟨%d0, H0⟩, ⟨%d1, H1⟩, ⟨%d2, H2⟩, ⟨%d3, H3⟩⟩
  iapply ((kernelRun c (grid0.coords t) _ _ _ _ _ _ _ _ _ _ _ _ _ _ _ _ (iblk m hO c 0 t) (iblk m hO c 1 t) (iblk m hO c 2 t) (tbl m 0) (Hyps.c0 hS.hyps c t) (Hyps.c1 hS.hyps c t) (Hyps.c2 hS.hyps c t) (Hyps.c3 hS.hyps c t) (Hyps.c4 hS.hyps c t) (Hyps.c5 hS.hyps c t) (Hyps.c6 hS.hyps c t) (Hyps.c7 hS.hyps c t) (Hyps.c8 hS.hyps c t) (Hyps.c9 hS.hyps c t) (Hyps.c10 hS.hyps c t) (Hyps.c11 hS.hyps c t) (Hyps.c12 hS.hyps c t) (Hyps.c13 hS.hyps c t) (Hyps.c14 hS.hyps c t) (Hyps.c15 hS.hyps c t) (hS.inside c)) Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  isplitl [HT0]; · iexact HT0
  iintro ⟨H0, H1, H2, ⟨%e3, H3⟩, HS0, HS1, HS2, HS3, HT0⟩
  isplitl [HS0 HS1 HS2 HS3 Hg HT0]
  · isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    iexact HT0
  isplitl [Ho]; · iexact Ho
  isplitl [H0]; · iexact H0
  isplitl [H1]; · iexact H1
  isplitl [H2]; · iexact H2
  rw [show outAt m hO hS c t = attended (blkX m hO c t) (blkW m hO c t) (blkB m hO c t) (boundary (F := F) c (tbl m 0)) (hS.inside c) e3 from hS.covers c _ _ _ _ _]
  iexact H3

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (`triple_restated`). -/
theorem body_obligation (hO : Ok m) (hS : Served m hO) (c : Dev nD) : BodyObligation (dats (F := F) m hO hS 0 c) (defs₀ (F := F)) Variants.none () Set.univ := fun t => by
  rw [bigSep_W0, bigSep_W0, defs₀_row m hO]
  exact triple_restated (sound_body m hO hS c t) rfl .rfl fun _ => .rfl

/-! ## The run and the frame -/

set_option backward.isDefEq.respectTransparency.types false in
/-- The launch: every run ends with the arrays at what the proof data says and every counter at zero. -/
theorem run_main_quiescent (hO : Ok m) (hS : Served m hO) : θ_run defs (onTc (τ := τ) (main (F := F))) (s₀ m ρ)
    (fun r => Pipeline.FramePost (Pipeline.pin pcfgs fun _ => adm m hO) (dats m hO hS) 0 (V m) r ∧ r.2.sem = fun _ => 0) :=
  Pipeline.θ_run_frameP (Q' := _) pcfgs (fun _ => adm m hO) (dats m hO hS) (0 : Fin 1) launch0 defs₀ Variants.none m ρ main
    (hbody := fun c => (body_obligation m hO hS c).loose) (hshare := fun c => (dats m hO hS 0 c).share_full fun _ => rfl)
    (howed := fun _ _ => rfl) (V := V m) (hmain := hmain m Variants.none) (hA := A_eq m hO hS) (hpf := V_pre m) (hΦ := fun _ _ => rfl)

end Cert.KernelIdeal.Gen

end
-- ==== Proof.KernelFacts.lean ====
/- From the stated range of the boundary words: every side condition of the idealized kernel's body, its run, and the
   contents of its result. -/
module

public import proofs.«01_k».proof.Proof.KernelFrame
public import proofs.«01_k».proof.Proof.SegmentRows
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic Idealize.SL.Sem
open Cert.Attention

variable {F : FTy → Type} [FloatOps F] [Named F]
variable (m : (ℓ : Loc nD τ sig) → Buf (Elt F) ℓ) (ρ : Dev nD → PrngReg)

/-- Boundary word `n` as the run finds it in memory. -/
def word (c : Dev nD) (n : Fin 17) : BitVec 32 := m ((c : Thread nD τ).loc main_arg1) (ix1 n)

/-- The body reads the boundary words of the argument array. -/
theorem boundary_word (c : Dev nD) (n : Fin 17) : boundary (F := F) c (tbl m 0) n = word m c n := by
  obtain rfl : c = 0 := Subsingleton.elim _ _
  have e : tbl m 0 = m (((0 : Dev nD) : Thread nD τ).loc main_arg1) := V_main_arg1 m 0
  unfold boundary word
  rw [e]
  refine congrArg (m (((0 : Dev nD) : Thread nD τ).loc main_arg1)) (funext fun x => Fin.ext ?_)
  revert x
  exact Fin.forall_fin_one.mpr rfl

/-- The boundary words lie in the stated range on every device. -/
def InRangeAll : Prop := ∀ c : Dev nD, InRange (word m c)

variable {m}

theorem InRangeAll.boundary (h : InRangeAll m) (c : Dev nD) : InRange (boundary (F := F) c (tbl m 0)) := by
  rw [show Gen.boundary (F := F) c (tbl m 0) = word m c from funext fun n => boundary_word m c n]
  exact h c

theorem InRangeAll.inside (h : InRangeAll m) (c : Dev nD) (n : Fin 16) : Inside (Gen.boundary (F := F) c (tbl m 0) n.castSucc) :=
  Inside.of_span ((h.boundary c).span n)

theorem InRangeAll.hyps (h : InRangeAll m) (hO : Ok m) : Hyps m hO :=
  Hyps.of (fun c _ => h.inside c 0) (fun c _ => h.inside c 1) (fun c _ => h.inside c 2) (fun c _ => h.inside c 3)
    (fun c _ => h.inside c 4) (fun c _ => h.inside c 5) (fun c _ => h.inside c 6) (fun c _ => h.inside c 7)
    (fun c _ => h.inside c 8) (fun c _ => h.inside c 9) (fun c _ => h.inside c 10) (fun c _ => h.inside c 11)
    (fun c _ => h.inside c 12) (fun c _ => h.inside c 13) (fun c _ => h.inside c 14) (fun c _ => h.inside c 15)

theorem InRangeAll.served (h : InRangeAll m) (hO : Ok m) : Served m hO where
  hyps := h.hyps hO
  inside := h.inside
  covers c x w b d d' := attended_covers (h.boundary c) _ x w b d d'

/-! ## The result of the run -/

variable (m)

/-- The joint weight: the three weights side by side. -/
def jointW (c : Dev nD) : Vec F S128x384 .f32 :=
  concatenate S128x384 1 [⟨S128x128, m ((c : Thread nD τ).loc main_arg2)⟩, ⟨S128x128, m ((c : Thread nD τ).loc main_arg3)⟩,
    ⟨S128x128, m ((c : Thread nD τ).loc main_arg4)⟩] concatenates_S128x128_S128x128_S128x128_S128x384_d1

/-- The joint bias as one row. -/
def jointB (c : Dev nD) : Vec F S1x384 .f32 :=
  broadcastInDim S1x384 ![1] bcast_S384_S1x384_1 (concatenate S384 0 [⟨S128, m ((c : Thread nD τ).loc main_arg5)⟩,
    ⟨S128, m ((c : Thread nD τ).loc main_arg6)⟩, ⟨S128, m ((c : Thread nD τ).loc main_arg7)⟩] concatenates_S128_S128_S128_S384_d0)

theorem V_joint_weight (c : Dev nD) : V m c main_call0_v0 = jointW m c := by
  unfold V
  simp only [hostOps0]
  after_results_simp
  rfl

theorem V_joint_bias (c : Dev nD) : V m c main_call0_v2 = jointB m c := by
  unfold V
  simp only [hostOps0]
  after_results_simp
  rfl

abbrev point0 (hO : Ok m) : Fin (cfgM m hO).N := ⟨0, (by decide : 0 < grid0.N)⟩

theorem blkX_eq (hO : Ok m) (c : Dev nD) : blkX m hO c (point0 m hO) = m ((c : Thread nD τ).loc main_arg0) := by
  funext j
  refine Eq.trans ?_ (congrFun (V_main_arg0 m c) j)
  refine congrArg (V m c main_arg0) ?_
  funext a
  apply Fin.ext
  revert a
  exact Fin.forall_fin_two.mpr ⟨by show 0 + 1 * (j 0).val = (j 0).val; omega, by show 0 + 1 * (j 1).val = (j 1).val; omega⟩

theorem blkW_eq (hO : Ok m) (c : Dev nD) : blkW m hO c (point0 m hO) = jointW m c := by
  funext j
  refine Eq.trans ?_ (congrFun (V_joint_weight m c) j)
  refine congrArg (V m c main_call0_v0) ?_
  funext a
  apply Fin.ext
  revert a
  exact Fin.forall_fin_two.mpr ⟨by show 0 + 1 * (j 0).val = (j 0).val; omega, by show 0 + 1 * (j 1).val = (j 1).val; omega⟩

theorem blkB_eq (hO : Ok m) (c : Dev nD) : blkB m hO c (point0 m hO) = jointB m c := by
  funext j
  refine Eq.trans ?_ (congrFun (V_joint_bias m c) j)
  refine congrArg (V m c main_call0_v2) ?_
  funext a
  apply Fin.ext
  revert a
  exact Fin.forall_fin_two.mpr ⟨by show 0 + 1 * (j 0).val = (j 0).val; omega, by show 0 + 1 * (j 1).val = (j 1).val; omega⟩

/-- The result array after the run, from the argument arrays. -/
def result (h : InRangeAll m) (c : Dev nD) : Vec F S4096x128 .f32 :=
  attended (m ((c : Thread nD τ).loc main_arg0)) (jointW m c) (jointB m c) (Gen.boundary (F := F) c (tbl m 0)) (h.inside c)
    (fun _ => (Scalar.ofBits .f32 0x00000000#32 : F .f32))

/-- The one write of the result's window covers the result array. -/
theorem whole_out (hO : Ok m) : ((cfgM m hO).win 3).WholeAt (point0 m hO) := by
  have e : ∀ t : Fin (cfgM m hO).N, t = point0 m hO := fun t => Fin.ext (by
    have h1 : t.val < grid0.N := t.isLt
    have h2 : grid0.N = 1 := by decide
    show t.val = 0
    omega)
  refine ⟨?_, fun t _ => e t, Fin.forall_fin_two.mpr ⟨?_, ?_⟩⟩
  · rfl
  · exact ⟨rfl, rfl⟩
  · exact ⟨rfl, rfl⟩

theorem final (hO : Ok m) (h : InRangeAll m) (c : Dev nD) :
    (dats m hO (h.served hO) 0 c).arrAt 3 (cfgM m hO).N = result m h c := by
  refine (dats m hO (h.served hO) 0 c).arrAt_eq_of_after_last 3 (point0 m hO) (whole_out m hO) _ fun j => ?_
  rw [after0_3]
  unfold outAt result
  rw [blkX_eq, blkW_eq, blkB_eq]
  blk_simp
  rfl

/-- The run: the result array at `result`, the arguments unchanged, and every counter at zero. -/
theorem runs (h : InRangeAll m) : θ_run defs (onTc (τ := τ) (main (F := F))) ⟨m, fun _ => 0, ρ⟩ (fun r => (∀ c : Dev nD,
      r.2.mem ((c.tc : Thread nD τ).loc main_v0) = result m h c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  have hO : Ok m := by trivial
  (θ_run defs _ _).mono (fun _ hr => ⟨fun c => ⟨(hr.1.out_eq c 3).trans (final m hO h c),
      (hr.1.in_eq c 0 rfl).trans ((A_eq m hO (h.served hO) c 0).trans (V_main_arg0 m c)),
      (hr.1.rest_eq c main_arg1 (by decide : main_arg1 ∈ Pipeline.restRefs sig spec0)).trans (V_main_arg1 m c),
      (hr.1.rest_eq c main_arg2 (by decide : main_arg2 ∈ Pipeline.restRefs sig spec0)).trans (V_main_arg2 m c),
      (hr.1.rest_eq c main_arg3 (by decide : main_arg3 ∈ Pipeline.restRefs sig spec0)).trans (V_main_arg3 m c),
      (hr.1.rest_eq c main_arg4 (by decide : main_arg4 ∈ Pipeline.restRefs sig spec0)).trans (V_main_arg4 m c),
      (hr.1.rest_eq c main_arg5 (by decide : main_arg5 ∈ Pipeline.restRefs sig spec0)).trans (V_main_arg5 m c),
      (hr.1.rest_eq c main_arg6 (by decide : main_arg6 ∈ Pipeline.restRefs sig spec0)).trans (V_main_arg6 m c),
      (hr.1.rest_eq c main_arg7 (by decide : main_arg7 ∈ Pipeline.restRefs sig spec0)).trans (V_main_arg7 m c)⟩, hr.2⟩) (run_main_quiescent m ρ hO (h.served hO))

end Cert.KernelIdeal.Gen

end
-- ==== Proof.Frames.lean ====
/- The claims about the runs: each program ends, its arguments unchanged and its counters at zero; and the one
   replacement that the idealized kernel makes. -/
module

public import proofs.«01_k».proof.Defs
public import proofs.«01_k».proof.Proof.KernelWords
public import proofs.«01_k».proof.Proof.KernelFacts
public import proofs.«01_k».proof.Proof.Gen.ReferenceIdeal
public import proofs.«01_k».proof.Proof.Gen.ReferenceIdeal.Run

@[expose] public section

noncomputable section

namespace Cert.Attention

open Idealize.ShloMosaic Idealize.ShloMosaic.TcCoe Idealize.SL.Sem

/-- The kernel runs on every input whose boundary words lie in the stated range. -/
theorem frame_kernel : Cert.quiescent_Kernel (hPre_segments := factsSegments) := fun m ρ hpre =>
  have h : Cert.Kernel.Gen.InRangeAll m := fun c => inRange_of_segments _ _ _ _ _ _ _ _ (hpre c)
  Cert.Kernel.Gen.frame m ρ trivial (h.hyps trivial)

/-- The stated range, read off the idealized kernel's memory. -/
theorem range_segments (m : (ℓ : Loc Cert.KernelIdeal.nD Cert.KernelIdeal.τ Cert.KernelIdeal.sig) → Buf (Elt Ideal) ℓ)
    (hpre : Cert.Pre_KernelIdeal (hPre_segments := factsSegments) m) : Cert.KernelIdeal.Gen.InRangeAll m :=
  fun c => inRange_of_segments _ _ _ _ _ _ _ _ (hpre c)

theorem range_finite (m : (ℓ : Loc Cert.KernelIdeal.nD Cert.KernelIdeal.τ Cert.KernelIdeal.sig) → Buf (Elt Ideal) ℓ)
    (hpre : Cert.Pre_KernelIdeal_finite_segments (hPre_finite_segments := factsFinite) m) : Cert.KernelIdeal.Gen.InRangeAll m :=
  fun c => inRange_of_finite _ _ _ _ _ _ _ _ (hpre c).1

/-- The idealized kernel runs on every input whose boundary words lie in the stated range. -/
theorem frame_ideal : Cert.quiescent_KernelIdeal (hPre_segments := factsSegments) := fun m ρ hpre =>
  (θ_run Cert.KernelIdeal.defs _ _).mono (fun _ h => ⟨fun c => (h.1 c).2, h.2⟩)
    (Cert.KernelIdeal.Gen.runs m ρ (range_segments m hpre))

theorem frame_ideal_finite : Cert.quiescent_KernelIdeal_pre_finite_segments (hPre_finite_segments := factsFinite) := fun m ρ hpre =>
  (θ_run Cert.KernelIdeal.defs _ _).mono (fun _ h => ⟨fun c => (h.1 c).2, h.2⟩)
    (Cert.KernelIdeal.Gen.runs m ρ (range_finite m hpre))

/-- The reference runs. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_finite : Cert.quiescent_ReferenceIdeal_pre_finite_segments (hPre_finite_segments := factsFinite) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The one replacement: the mask constant is the name's value. -/
theorem preserves : Cert.preserves_Kernel_KernelIdeal :=
  IdealRules.named_const.statement Cert.KernelIdeal.κ "mask" .f32 0xF149F2CA#32 ⊥ rfl

end Cert.Attention

end
-- ==== Proof.Attend.lean ====
/- The attention over one segment as sums over the segment's rows, and the sums over a window of 512 rows that come to
   them. All over the extended reals. -/
module

public import Idealize.ShloMosaic.Lib.Pointwise
public import proofs.«01_k».proof.Proof.Bounds

@[expose] public section

noncomputable section

namespace Cert.Attention

open Idealize.ShloMosaic

/-- A linear layer at row `r` and lane `l`. -/
def lin (x : Fin 4096 → Fin 128 → EReal) (W : Fin 128 → Fin 128 → EReal) (b : Fin 128 → EReal) (r : Fin 4096) (l : Fin 128) : EReal :=
  ∑ d, x r d * W d l + b l

/-- The rows of an array of 4096 rows, by number; zero past the last. -/
def rowOf (q : Fin 4096 → Fin 128 → EReal) (r : ℕ) (l : Fin 128) : EReal := if h : r < 4096 then q ⟨r, h⟩ l else 0

/-- The score of rows `r` and `j`. -/
def score (q k : Fin 4096 → Fin 128 → EReal) (r j : ℕ) : EReal := ∑ d, rowOf q r d * rowOf k j d

/-- The score with everything outside the segment `[a, b)`, and the row itself, at minus infinity. -/
def masked (q k : Fin 4096 → Fin 128 → EReal) (a b r j : ℕ) : EReal := if a ≤ j ∧ j < b ∧ j ≠ r then score q k r j else ⊥

/-- The greatest masked score of row `r`. -/
def top (q k : Fin 4096 → Fin 128 → EReal) (a b r : ℕ) : EReal := (Finset.Ico a b).sup (masked q k a b r)

/-- The weight of row `j` for row `r`, not yet divided by the sum of the weights. -/
def weight (q k : Fin 4096 → Fin 128 → EReal) (a b r j : ℕ) : EReal := Ideal.exp (masked q k a b r j - top q k a b r)

/-- The attention over the segment `[a, b)` at row `r` and lane `l`. -/
def attend (q k v : Fin 4096 → Fin 128 → EReal) (a b r : ℕ) (l : Fin 128) : EReal :=
  Ideal.div (∑ j ∈ Finset.Ico a b, weight q k a b r j * rowOf v j l) (∑ j ∈ Finset.Ico a b, weight q k a b r j)

/-- Outside the segment the weight is zero. -/
theorem weight_outside (q k : Fin 4096 → Fin 128 → EReal) (a b r j : ℕ) (h : ¬ (a ≤ j ∧ j < b)) : weight q k a b r j = 0 := by
  have e : masked q k a b r j = ⊥ := if_neg fun hc => h ⟨hc.1, hc.2.1⟩
  unfold weight
  rw [e, sub_eq_add_neg, EReal.bot_add, Ideal.exp_bot]

/-- A sum over a window of 512 rows, of a term that is zero outside the segment it holds, is the sum over the segment. -/
theorem sum_window {a b o : ℕ} (ha : o ≤ a) (hb : b ≤ o + 512) (g : ℕ → EReal) (hg : ∀ j, ¬ (a ≤ j ∧ j < b) → g j = 0) :
    ∑ x : Fin 512, g (o + x) = ∑ j ∈ Finset.Ico a b, g j := by
  rw [Fin.sum_univ_eq_sum_range (fun x => g (o + x)) 512, ← Finset.sum_image (g := fun x => o + x) (f := g) (fun _ _ _ _ h => Nat.add_left_cancel h)]
  refine (Finset.sum_subset (fun j hj => ?_) (fun j _ hj => hg j ?_)).symm
  · rw [Finset.mem_Ico] at hj
    exact Finset.mem_image.mpr ⟨j - o, Finset.mem_range.mpr (by omega), by omega⟩
  · rwa [Finset.mem_Ico] at hj

/-- The same of the greatest value, of a term that is minus infinity outside the segment. -/
theorem sup_window {a b o : ℕ} (ha : o ≤ a) (hb : b ≤ o + 512) (g : ℕ → EReal) (hg : ∀ j, ¬ (a ≤ j ∧ j < b) → g j = ⊥) :
    Finset.univ.fold max ⊥ (fun x : Fin 512 => g (o + x)) = (Finset.Ico a b).sup g := by
  show (Finset.univ : Finset (Fin 512)).sup (fun x => g (o + x)) = _
  refine le_antisymm (Finset.sup_le fun x _ => ?_) (Finset.sup_le fun j hj => ?_)
  · by_cases h : a ≤ o + x.val ∧ o + x.val < b
    · exact Finset.le_sup (f := g) (Finset.mem_Ico.mpr h)
    · rw [hg _ h]; exact bot_le
  · rw [Finset.mem_Ico] at hj
    have := Finset.le_sup (f := fun x : Fin 512 => g (o + x)) (Finset.mem_univ (⟨j - o, by omega⟩ : Fin 512))
    rw [show o + (⟨j - o, by omega⟩ : Fin 512).val = j by show o + (j - o) = j; omega] at this
    exact this

/-! ## Where everything is real -/

theorem IsReal.coe (x : ℝ) : IsReal (x : EReal) := ⟨EReal.coe_ne_bot x, EReal.coe_ne_top x⟩

theorem IsReal.lift {x : EReal} (h : IsReal x) : ∃ y : ℝ, x = y := ⟨x.toReal, (EReal.coe_toReal h.2 h.1).symm⟩

theorem IsReal.add {x y : EReal} (hx : IsReal x) (hy : IsReal y) : IsReal (x + y) := by
  obtain ⟨x, rfl⟩ := hx.lift
  obtain ⟨y, rfl⟩ := hy.lift
  rw [← EReal.coe_add]
  exact IsReal.coe _

theorem IsReal.mul {x y : EReal} (hx : IsReal x) (hy : IsReal y) : IsReal (x * y) := by
  obtain ⟨x, rfl⟩ := hx.lift
  obtain ⟨y, rfl⟩ := hy.lift
  rw [← EReal.coe_mul]
  exact IsReal.coe _

theorem IsReal.sum {ι : Type} (s : Finset ι) (f : ι → EReal) (h : ∀ i ∈ s, IsReal (f i)) : IsReal (∑ i ∈ s, f i) :=
  Finset.sum_induction f IsReal (fun _ _ => IsReal.add) (IsReal.coe 0) h

theorem IsReal.lin {x : Fin 4096 → Fin 128 → EReal} {W : Fin 128 → Fin 128 → EReal} {b : Fin 128 → EReal}
    (hx : ∀ r d, IsReal (x r d)) (hW : ∀ d l, IsReal (W d l)) (hb : ∀ l, IsReal (b l)) (r : Fin 4096) (l : Fin 128) :
    IsReal (lin x W b r l) :=
  (IsReal.sum _ _ fun d _ => (hx r d).mul (hW d l)).add (hb l)

theorem IsReal.rowOf {q : Fin 4096 → Fin 128 → EReal} (hq : ∀ r d, IsReal (q r d)) (r : ℕ) (l : Fin 128) : IsReal (rowOf q r l) := by
  unfold Attention.rowOf
  split
  · exact hq _ _
  · exact IsReal.coe 0

theorem IsReal.score {q k : Fin 4096 → Fin 128 → EReal} (hq : ∀ r d, IsReal (q r d)) (hk : ∀ r d, IsReal (k r d)) (r j : ℕ) :
    IsReal (score q k r j) :=
  IsReal.sum _ _ fun d _ => (IsReal.rowOf hq r d).mul (IsReal.rowOf hk j d)

/-- Where a segment has another row than `r`, the greatest masked score is real. -/
theorem IsReal.top {q k : Fin 4096 → Fin 128 → EReal} (hq : ∀ r d, IsReal (q r d)) (hk : ∀ r d, IsReal (k r d)) {a b r j : ℕ}
    (h1 : a ≤ j) (h2 : j < b) (h3 : j ≠ r) : IsReal (top q k a b r) := by
  constructor
  · intro hc
    have h := Finset.le_sup (f := masked q k a b r) (Finset.mem_Ico.mpr ⟨h1, h2⟩)
    rw [show (Finset.Ico a b).sup (masked q k a b r) = ⊥ from hc, le_bot_iff] at h
    rw [masked, if_pos ⟨h1, h2, h3⟩] at h
    exact (IsReal.score hq hk r j).1 h
  · unfold Attention.top
    have h : (Finset.Ico a b).sup (masked q k a b r) < ⊤ := (Finset.sup_lt_iff bot_lt_top).mpr fun i _ => by
      unfold masked
      split
      · exact lt_top_iff_ne_top.mpr (IsReal.score hq hk r i).2
      · exact bot_lt_top
    exact h.ne

/-- A weight is a nonnegative real. -/
theorem weight_real {q k : Fin 4096 → Fin 128 → EReal} (hq : ∀ r d, IsReal (q r d)) (hk : ∀ r d, IsReal (k r d)) {a b r : ℕ}
    (ht : IsReal (top q k a b r)) (j : ℕ) : ∃ w : ℝ, 0 ≤ w ∧ weight q k a b r j = w ∧ (a ≤ j → j < b → j ≠ r → 0 < w) := by
  obtain ⟨t, et⟩ := ht.lift
  unfold weight masked
  rw [et]
  split
  · obtain ⟨s, es⟩ := (IsReal.score hq hk r j).lift
    rw [es, ← EReal.coe_sub, Ideal.exp_coe]
    exact ⟨_, (Real.exp_pos _).le, rfl, fun _ _ _ => Real.exp_pos _⟩
  · rename_i hc
    refine ⟨0, le_rfl, ?_, fun h1 h2 h3 => absurd ⟨h1, h2, h3⟩ hc⟩
    rw [sub_eq_add_neg, EReal.bot_add, Ideal.exp_bot]
    rfl

theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The sum of the weights is a positive real. -/
theorem weights_real {q k : Fin 4096 → Fin 128 → EReal} (hq : ∀ r d, IsReal (q r d)) (hk : ∀ r d, IsReal (k r d)) {a b r j : ℕ}
    (h1 : a ≤ j) (h2 : j < b) (h3 : j ≠ r) : ∃ w : ℝ, 0 < w ∧ ∑ i ∈ Finset.Ico a b, weight q k a b r i = w := by
  choose w hw0 hw hwp using weight_real hq hk (IsReal.top hq hk h1 h2 h3)
  refine ⟨∑ i ∈ Finset.Ico a b, w i, ?_, ?_⟩
  · exact Finset.sum_pos' (fun i _ => hw0 i) ⟨j, Finset.mem_Ico.mpr ⟨h1, h2⟩, hwp j h1 h2 h3⟩
  · rw [coe_sum]
    exact Finset.sum_congr rfl fun i _ => hw i

/-- Multiplication by a nonnegative real goes into a sum of extended reals. -/
theorem sum_mul_real {ι : Type} (s : Finset ι) (f : ι → EReal) (w : ℝ) (hw : 0 ≤ w) : (∑ i ∈ s, f i) * (w : EReal) = ∑ i ∈ s, f i * (w : EReal) := by
  classical
  induction s using Finset.induction_on with
  | empty => simp
  | insert i s hi ih =>
    rw [Finset.sum_insert hi, Finset.sum_insert hi, ← ih]
    exact EReal.right_distrib_of_nonneg_of_ne_top (EReal.coe_nonneg.mpr hw) (EReal.coe_ne_top w) _ _

/-- Dividing each weight first, or the weighted sum at the end, is the same. -/
theorem attend_divided {q k : Fin 4096 → Fin 128 → EReal} (v : Fin 4096 → Fin 128 → EReal) (hq : ∀ r d, IsReal (q r d)) (hk : ∀ r d, IsReal (k r d))
    {a b r j : ℕ} (h1 : a ≤ j) (h2 : j < b) (h3 : j ≠ r) (l : Fin 128) :
    ∑ i ∈ Finset.Ico a b, Ideal.div (weight q k a b r i) (∑ i ∈ Finset.Ico a b, weight q k a b r i) * rowOf v i l = attend q k v a b r l := by
  obtain ⟨w, hw, ew⟩ := weights_real hq hk h1 h2 h3
  unfold attend
  rw [ew, Ideal.div_coe hw.ne', sum_mul_real _ _ _ (one_div_nonneg.mpr hw.le)]
  refine Finset.sum_congr rfl fun i _ => ?_
  rw [Ideal.div_coe hw.ne', mul_assoc, mul_assoc, mul_comm (rowOf v i l)]

end Cert.Attention

end
-- ==== Proof.KernelValue.lean ====
/- What the idealized kernel leaves at a row of its result: the attention over the row's segment. -/
module

public import proofs.«01_k».proof.Proof.KernelFacts
public import proofs.«01_k».proof.Proof.Attend
public import Idealize.ShloMosaic.Lib.Pointwise

@[expose] public section

set_option maxRecDepth 16384

noncomputable section

namespace Cert.KernelIdeal.Gen

open Idealize.ShloMosaic Idealize.ShloMosaic.TcCoe Idealize.SL.Sem
open Cert.Attention

variable (m : (ℓ : Loc nD τ sig) → Buf (Elt Ideal) ℓ)

/-- The tokens, the weights and the biases as functions of row and lane. -/
def tokens (c : Dev nD) (r : Fin 4096) (d : Fin 128) : EReal := m ((c : Thread nD τ).loc main_arg0) (ix2 r d)
def weightQ (c : Dev nD) (d l : Fin 128) : EReal := m ((c : Thread nD τ).loc main_arg2) (ix2 d l)
def weightK (c : Dev nD) (d l : Fin 128) : EReal := m ((c : Thread nD τ).loc main_arg3) (ix2 d l)
def weightV (c : Dev nD) (d l : Fin 128) : EReal := m ((c : Thread nD τ).loc main_arg4) (ix2 d l)
def biasQ (c : Dev nD) (l : Fin 128) : EReal := m ((c : Thread nD τ).loc main_arg5) (ix1 l)
def biasK (c : Dev nD) (l : Fin 128) : EReal := m ((c : Thread nD τ).loc main_arg6) (ix1 l)
def biasV (c : Dev nD) (l : Fin 128) : EReal := m ((c : Thread nD τ).loc main_arg7) (ix1 l)

/-- The queries, keys and values of the rows. -/
def queries (c : Dev nD) : Fin 4096 → Fin 128 → EReal := lin (tokens m c) (weightQ m c) (biasQ m c)
def keys (c : Dev nD) : Fin 4096 → Fin 128 → EReal := lin (tokens m c) (weightK m c) (biasK m c)
def values (c : Dev nD) : Fin 4096 → Fin 128 → EReal := lin (tokens m c) (weightV m c) (biasV m c)

theorem pay3_row (c : Dev nD) (r : Fin 4096) (l : Fin 128) :
    k0_pay3 (m ((c : Thread nD τ).loc main_arg0)) (jointW m c) (jointB m c) (ix2 r l) = queries m c r l := by
  pointwise [k0_pay3, k0_pay2, jointW, jointB]
  rfl

theorem pay4_row (c : Dev nD) (r : Fin 4096) (l : Fin 128) :
    k0_pay4 (m ((c : Thread nD τ).loc main_arg0)) (jointW m c) (jointB m c) (ix2 r l) = keys m c r l := by
  pointwise [k0_pay4, k0_pay2, jointW, jointB]
  rfl

theorem pay5_row (c : Dev nD) (r : Fin 4096) (l : Fin 128) :
    k0_pay5 (m ((c : Thread nD τ).loc main_arg0)) (jointW m c) (jointB m c) (ix2 r l) = values m c r l := by
  pointwise [k0_pay5, k0_pay2, jointW, jointB]
  have h1 : ¬ 256 + l.val < 128 := by omega
  have h2 : ¬ 256 + l.val - 128 < 128 := by omega
  have e : ∀ h, (⟨256 + l.val - 128 - 128, h⟩ : Fin 128) = l := fun h => Fin.ext (by show 256 + l.val - 128 - 128 = l.val; omega)
  simp only [dif_neg h1, dif_neg h2, e]
  rfl

theorem pay6_row (r : Fin 4096) : k0_pay6 (F := Ideal) (ix2 r 0) = 1 := by
  pointwise [k0_pay6]

theorem mask_bot : (Named.named κ "mask" 0xF149F2CA#32 : Ideal .f32) = ⊥ := rfl

/-- The diagonal mask: minus infinity on the diagonal, zero elsewhere. -/
theorem diag (i x : Fin 512) : k0_pay8 (F := Ideal) k0_pay7 (ix2 i x) = if i = x then ⊥ else 0 := by
  pointwise [k0_pay8, k0_pay7]
  rw [mask_bot]
  by_cases h : i = x
  · subst h
    rw [if_pos rfl, show IntOp.cmpi CmpIPredicate.eq (BitVec.ofNat 32 i.val) (BitVec.ofNat 32 i.val) = 1#1 by simp [IntOp.cmpi]]
    rfl
  · have hn : BitVec.ofNat 32 i.val ≠ BitVec.ofNat 32 x.val := fun e => h (Fin.ext (by
      have e' := congrArg BitVec.toNat e
      rw [BitVec.toNat_ofNat, BitVec.toNat_ofNat, Nat.mod_eq_of_lt (by omega), Nat.mod_eq_of_lt (by omega)] at e'
      exact e'))
    rw [if_neg h, show IntOp.cmpi CmpIPredicate.eq (BitVec.ofNat 32 i.val) (BitVec.ofNat 32 x.val) = 0#1 by
      show BitVec.ofBool (BitVec.ofNat 32 i.val == BitVec.ofNat 32 x.val) = 0#1
      rw [beq_false_of_ne hn]; rfl]
    rfl

/-- The widened value rows: the value in the first 128 lanes, a one in lane 128. -/
theorem wide_value (x : Vec Ideal S4096x128 .f32) (w : Vec Ideal S128x384 .f32) (b : Vec Ideal S1x384 .f32) (r : Fin 4096) (l : Fin 128) (l' : Fin 256)
    (hl : l'.val = l.val) : wideV x w b (ix2 r l') = k0_pay5 x w b (ix2 r l) := by
  unfold wideV VecWindow.put
  rw [dif_neg (fun h => by
    have h1 : 128 ≤ l'.val := (h 1).1
    omega)]
  have hy : ∀ a : Fin 2, (![0, 0] : Fin 2 → ℕ) a ≤ ((ix2 r l' : S4096x256.Idx) a).val ∧ ((ix2 r l' : S4096x256.Idx) a).val < (![0, 0] : Fin 2 → ℕ) a + S4096x128.size a :=
    Fin.forall_fin_two.mpr ⟨⟨Nat.zero_le _, by show r.val < 0 + 4096; omega⟩, ⟨Nat.zero_le _, by show l'.val < 0 + 128; omega⟩⟩
  rw [dif_pos hy]
  refine congrArg (k0_pay5 x w b) (funext fun a => Fin.ext ?_)
  revert a
  exact Fin.forall_fin_two.mpr ⟨rfl, by show l'.val - 0 = l.val; omega⟩

theorem wide_one (x : Vec Ideal S4096x128 .f32) (w : Vec Ideal S128x384 .f32) (b : Vec Ideal S1x384 .f32) (r : Fin 4096) :
    wideV x w b (ix2 r (128 : Fin 256)) = (1 : EReal) := by
  unfold wideV VecWindow.put
  have hy : ∀ a : Fin 2, (![0, 128] : Fin 2 → ℕ) a ≤ ((ix2 r (128 : Fin 256) : S4096x256.Idx) a).val ∧ ((ix2 r (128 : Fin 256) : S4096x256.Idx) a).val < (![0, 128] : Fin 2 → ℕ) a + S4096x128.size a :=
    Fin.forall_fin_two.mpr ⟨⟨Nat.zero_le _, by show r.val < 0 + 4096; omega⟩, ⟨le_refl 128, by show 128 < 128 + 128; omega⟩⟩
  rw [dif_pos hy]
  refine Eq.trans (congrArg (k0_pay6 (F := Ideal)) (funext fun a => Fin.ext ?_)) (pay6_row r)
  revert a
  exact Fin.forall_fin_two.mpr ⟨rfl, rfl⟩

/-- A window of an array of rows, read at a row. -/
theorem window_row {n : ℕ} {α : Type} (q : (⟨2, ![4096, n]⟩ : Shape).Idx → α) (s : ℕ) (h) (i : Fin 512) (d : Fin n) (r : Fin 4096) (hr : r.val = s + i.val) :
    VecWindow.window q (![s, 0] : Fin 2 → ℕ) (![512, n] : Fin 2 → ℕ) h (ix2 i d : (⟨2, ![512, n]⟩ : Shape).Idx) = q (ix2 r d) := by
  unfold VecWindow.window
  refine congrArg q (funext fun a => Fin.ext ?_)
  revert a
  exact Fin.forall_fin_two.mpr ⟨by show s + 1 * i.val = r.val; omega, by show 0 + 1 * d.val = d.val; omega⟩

theorem add_masks (s : EReal) (p q : Prop) [Decidable p] [Decidable q] :
    s + (if p then ⊥ else 0) + (if q then (0 : EReal) else ⊥) = if ¬ p ∧ q then s else ⊥ := by
  by_cases hp : p <;> by_cases hq : q <;> simp [hp, hq]

/-- The attention over a segment at a row of its window is `attend`. -/
theorem segRow_attend {q k : Vec Ideal S4096x128 .bf16} {va : Vec Ideal S4096x256 .bf16} (Q K V : Fin 4096 → Fin 128 → EReal)
    (hq : ∀ r l, q (ix2 r l) = Q r l) (hk : ∀ r l, k (ix2 r l) = K r l)
    (hv : ∀ (r : Fin 4096) (l : Fin 128), va (ix2 r (⟨l.val, by omega⟩ : Fin 256)) = V r l) (h1 : ∀ r : Fin 4096, va (ix2 r (128 : Fin 256)) = (1 : EReal))
    {a b : BitVec 32} (hs : Span a b) (h : Inside a) (i : Fin 512) (l : Fin 128) (ha : a.toNat ≤ (aligned a).toNat + i.val)
    (hb : (aligned a).toNat + i.val < b.toNat) :
    segRow q k va (k0_pay8 (F := Ideal) k0_pay7) a b h i l = attend Q K V a.toNat b.toNat ((aligned a).toNat + i.val) l := by
  have hroom := hs.room
  have hin : ∀ x : Fin 512, (aligned a).toNat + x.val < 4096 := fun x => by omega
  have row : ∀ (G : Fin 4096 → Fin 128 → EReal) (x : Fin 512) (d : Fin 128), G ⟨(aligned a).toNat + x.val, hin x⟩ d = rowOf G ((aligned a).toNat + x.val) d :=
    fun G x d => by unfold rowOf; rw [dif_pos (hin x)]
  have eq : ∀ (x : Fin 512) (d : Fin 128), VecWindow.window q (rowsAt a) S512x128.size h.1 (ix2 x d : S512x128.Idx) = rowOf Q ((aligned a).toNat + x.val) d :=
    fun x d => (window_row q _ h.1 x d ⟨_, hin x⟩ rfl).trans ((hq _ _).trans (row Q x d))
  have ek : ∀ (x : Fin 512) (d : Fin 128), VecWindow.window k (rowsAt a) S512x128.size h.1 (ix2 x d : S512x128.Idx) = rowOf K ((aligned a).toNat + x.val) d :=
    fun x d => (window_row k _ h.1 x d ⟨_, hin x⟩ rfl).trans ((hk _ _).trans (row K x d))
  have ev : ∀ (x : Fin 512) (d : Fin 128) (hd), VecWindow.window va (rowsAt a) S512x256.size h.2 (ix2 x (⟨d.val, hd⟩ : Fin 256) : S512x256.Idx) = rowOf V ((aligned a).toNat + x.val) d :=
    fun x d hd => (window_row va _ h.2 x _ ⟨_, hin x⟩ rfl).trans ((hv _ _).trans (row V x d))
  have eo : ∀ x : Fin 512, VecWindow.window va (rowsAt a) S512x256.size h.2 (ix2 x (128 : Fin 256) : S512x256.Idx) = (1 : EReal) :=
    fun x => (window_row va _ h.2 x _ ⟨_, hin x⟩ rfl).trans (h1 _)
  have sel : ∀ (x : Fin 512) (y z : EReal), Scalar.select (IntOp.andi (IntOp.cmpi CmpIPredicate.sge (BitVec.ofNat 32 x.val) (Scalar.subi a (aligned a)))
      (IntOp.cmpi CmpIPredicate.slt (BitVec.ofNat 32 x.val) (Scalar.subi b (aligned a)))) y z
      = if a.toNat ≤ (aligned a).toNat + x.val ∧ (aligned a).toNat + x.val < b.toNat then y else z := fun x y z => by
    show Scalar.select (inSegment a b (aligned a) x.val) y z = _
    rw [inSegment_eq a b (aligned a) x x.isLt hs.start hs.lt.le hs.top]
    split <;> rfl
  have em : ∀ x : Fin 512, ∑ d, rowOf Q ((aligned a).toNat + i.val) d * rowOf K ((aligned a).toNat + x.val) d + (if i = x then ⊥ else 0)
        + (if a.toNat ≤ (aligned a).toNat + x.val ∧ (aligned a).toNat + x.val < b.toNat then (0 : EReal) else ⊥)
      = masked Q K a.toNat b.toNat ((aligned a).toNat + i.val) ((aligned a).toNat + x.val) := fun x => by
    rw [add_masks]
    unfold masked score
    refine if_congr ?_ rfl rfl
    rw [Fin.ext_iff]
    omega
  have e0 : Ideal.ofBits .f32 0xFF800000#32 = ⊥ := by simp [Ideal.ofBits, Ideal.ieee]
  unfold segRow
  pointwise [k0_pay14, eq, ek, ev, eo, sel, diag, mask_bot, em, e0]
  rw [if_pos ⟨ha, hb⟩]
  rw [sup_window hs.start hs.stop (masked Q K a.toNat b.toNat ((aligned a).toNat + i.val)) fun j hj => if_neg fun hc => hj ⟨hc.1, hc.2.1⟩]
  have es := sum_window hs.start hs.stop (fun j => weight Q K a.toNat b.toNat ((aligned a).toNat + i.val) j * rowOf V j l)
    fun j hj => by rw [weight_outside _ _ _ _ _ _ hj, zero_mul]
  have ed := sum_window hs.start hs.stop (weight Q K a.toNat b.toNat ((aligned a).toNat + i.val)) fun j hj => weight_outside _ _ _ _ _ _ hj
  unfold attend
  rw [← es, ← ed]
  rfl

/-- Row `r` of the result is left by the step of the row's segment. -/
theorem result_segRow (h : InRangeAll m) (c : Dev nD) (n : Fin 16) (hin : ∀ k : Fin 16, Inside (word m c k.castSucc)) (i : Fin 512) (r : Fin 4096) (l : Fin 128)
    (hr : r.val = (aligned (word m c n.castSucc)).toNat + i.val) (h1 : (word m c n.castSucc).toNat ≤ r) (h2 : r < (word m c n.succ).toNat) :
    result m h c (ix2 r l) = segRow (F := Ideal) (k0_pay3 (m ((c : Thread nD τ).loc main_arg0)) (jointW m c) (jointB m c))
      (k0_pay4 (m ((c : Thread nD τ).loc main_arg0)) (jointW m c) (jointB m c)) (wideV (m ((c : Thread nD τ).loc main_arg0)) (jointW m c) (jointB m c))
      (k0_pay8 (F := Ideal) k0_pay7) (word m c n.castSucc) (word m c n.succ) (hin n) i l := by
  have key : ∀ cu : Fin 17 → BitVec 32, cu = word m c → ∀ hc : ∀ k : Fin 16, Inside (cu k.castSucc),
      attended (F := Ideal) (m ((c : Thread nD τ).loc main_arg0)) (jointW m c) (jointB m c) cu hc (fun _ => (Scalar.ofBits .f32 0x00000000#32 : Ideal .f32)) (ix2 r l)
        = segRow (F := Ideal) (k0_pay3 (m ((c : Thread nD τ).loc main_arg0)) (jointW m c) (jointB m c))
      (k0_pay4 (m ((c : Thread nD τ).loc main_arg0)) (jointW m c) (jointB m c)) (wideV (m ((c : Thread nD τ).loc main_arg0)) (jointW m c) (jointB m c))
      (k0_pay8 (F := Ideal) k0_pay7) (word m c n.castSucc) (word m c n.succ) (hin n) i l := by
    rintro _ rfl hc
    exact segSteps_row _ _ _ _ (h c) hc _ n i r l hr h1 h2 16 le_rfl n.isLt
  exact key _ (funext fun k => boundary_word m c k) _

/-- Row `r` of the result is the attention over the row's segment. -/
theorem result_row (h : InRangeAll m) (c : Dev nD) (n : Fin 16) (r : Fin 4096) (l : Fin 128) (h1 : (word m c n.castSucc).toNat ≤ r)
    (h2 : r < (word m c n.succ).toNat) :
    result m h c (ix2 r l)
      = attend (queries m c) (keys m c) (values m c) (word m c n.castSucc).toNat (word m c n.succ).toNat r l := by
  have hs := (h c).span n
  have hi : r.val - (aligned (word m c n.castSucc)).toNat < 512 := by
    have := hs.start; have := hs.stop; omega
  have hr : r.val = (aligned (word m c n.castSucc)).toNat + (⟨_, hi⟩ : Fin 512).val := by
    have := hs.start
    show r.val = _ + (r.val - _)
    omega
  refine (result_segRow m h c n (fun k => Inside.of_span ((h c).span k)) ⟨_, hi⟩ r l hr h1 h2).trans ?_
  refine (segRow_attend (queries m c) (keys m c) (values m c) (pay3_row m c) (pay4_row m c)
    (fun r l => (wide_value _ _ _ r l _ rfl).trans (pay5_row m c r l)) (wide_one _ _ _) hs _ _ l (le_of_le_of_eq h1 hr) (lt_of_eq_of_lt hr.symm h2)).trans ?_
  exact congrArg (fun t => attend (queries m c) (keys m c) (values m c) (word m c n.castSucc).toNat (word m c n.succ).toNat t l) hr.symm

end Cert.KernelIdeal.Gen

end
-- ==== Proof.RefWords.lean ====
/- The reference's index words: the segment of a row, and the row's place in its segment. -/
module

public import proofs.«01_k».proof.Proof.SegmentRows
public import proofs.«01_k».proof.Proof.Gen.ReferenceIdeal.Run
public import Idealize.ShloMosaic.Lib.Pointwise
public import Idealize.ShloMosaic.Lib.Routing.Ops
public import Idealize.ShloMosaic.Lib.Routing.OpsSearch
public import Idealize.ShloMosaic.Lib.Routing.OpsPair
public import Idealize.ShloMosaic.Lib.Routing.OpsSet
public import proofs.«01_k».proof.Proof.Attend

@[expose] public section

set_option maxRecDepth 16384

noncomputable section

namespace Cert.ReferenceIdeal.Value

open Idealize.ShloMosaic Idealize.ShloMosaic.TcCoe Idealize.SL.Sem
open Cert.Attention Cert.ReferenceIdeal Cert.ReferenceIdeal.Gen

variable (V : Valuation τ sig (Elt Ideal))

/-- The boundary words. -/
def bound (n : Fin 17) : BitVec 32 := V (Proc.devRef .tc main_arg1) (ix1 n)

/-- How many of the seventeen boundary numbers are at most `n`. -/
theorem count_le (n : Fin 16) : Nat.count (fun j => j ≤ n.val) 17 = n.val + 1 := by
  have : ∀ n : Fin 16, Nat.count (fun j => j ≤ n.val) 17 = n.val + 1 := by decide
  exact this n

/-- A boundary is at most a row of segment `n` exactly when its number is at most `n`. -/
theorem bound_le_iff {cu : Fin 17 → BitVec 32} (h : InRange cu) (n : Fin 16) (r : ℕ) (h1 : (cu n.castSucc).toNat ≤ r) (h2 : r < (cu n.succ).toNat) (j : Fin 17) :
    (cu j).toNat ≤ r ↔ j.val ≤ n.val := by
  constructor
  · intro hj
    by_contra hc
    have := h.mono n.succ j (by show n.val + 1 ≤ j.val; omega)
    omega
  · intro hj
    have := h.mono j n.castSucc hj
    omega

theorem small (cu : Fin 17 → BitVec 32) (h : InRange cu) (j : Fin 17) : (cu j).toNat ≤ 4096 := by
  have := h.mono j (Fin.last 16) (Fin.le_last j)
  have := h.last
  omega

/-- The number of the segment of a row. -/
theorem seg_word (h : InRange (bound V)) (n : Fin 16) (r : Fin 4096) (h1 : (bound V n.castSucc).toNat ≤ r) (h2 : r < (bound V n.succ).toNat) :
    res_main_v21 V (ix1 r) = BitVec.ofNat 32 n.val := by
  unfold res_main_v21
  refine (congrArg (fun w => IntOp.subi w 1#32) (Routing.reduce_count (n := 4096) (m := 17) (by decide) _ natLt_1_32 _ _ r (fun j => j ≤ n.val) (fun q => ?_))).trans ?_
  · pointwise [res_main_v12]
    rw [WordCmp.cmpi_sle_of_lt (by have := small _ h q; show (bound V q).toNat < 2 ^ 31; omega) (by rw [BitVec.toNat_ofNat]; omega), WordCmp.ofBool_decide_eq_one_iff,
      BitVec.toNat_ofNat, Nat.mod_eq_of_lt (by omega)]
    exact bound_le_iff h n r h1 h2 q
  · rw [count_le]
    have : ∀ n : Fin 16, IntOp.subi (BitVec.ofNat 32 (n.val + 1)) 1#32 = BitVec.ofNat 32 n.val := by decide
    exact this n

theorem nat_of_word (k : ℕ) (hk : k < 2 ^ 31) : (BitVec.ofNat 32 k).toNat = k := by
  rw [BitVec.toNat_ofNat]
  omega

/-- The place of a row in its segment. -/
theorem pos_word (h : InRange (bound V)) (n : Fin 16) (r : Fin 4096) (h1 : (bound V n.castSucc).toNat ≤ r) (h2 : r < (bound V n.succ).toNat) :
    res_main_v29 V (ix1 r) = BitVec.ofNat 32 (r.val - (bound V n.castSucc).toNat) := by
  unfold res_main_v29
  have hidx : (broadcastInDim S4096x1 ![0] bcast_S4096_S4096x1_0 (select (cmpi .slt (res_main_v21 V) (broadcastInDim S4096 ![] bcast_S_S4096 (constantI S_ 32 0#32)))
      (addi (res_main_v21 V) (broadcastInDim S4096 ![] bcast_S_S4096 (constantI S_ 32 17#32))) (res_main_v21 V))) (ix2 r (0 : Fin 1)) = BitVec.ofNat 32 n.val := by
    pointwise []
    rw [seg_word V h n r h1 h2]
    exact Routing.wrap_of_lt _ _ (by rw [nat_of_word _ (by omega)]; omega)
  refine (congrArg (fun w => IntOp.subi (res_main_v12 V (ix1 r)) w) (Routing.take_ap gather_S17_S4096x1_S4096_n_0_n_n_0_1_1 rfl rfl rfl rfl _ _ r (by omega : n.val < 17) (by omega) hidx)).trans ?_
  have e : res_main_v12 V (ix1 r) = BitVec.ofNat 32 r.val := by pointwise [res_main_v12]
  rw [e]
  have hb : (bound V n.castSucc).toNat ≤ 4096 := small _ h _
  apply BitVec.eq_of_toNat_eq
  rw [nat_of_word _ (by omega)]
  refine (BitVec.toNat_sub_of_le (x := BitVec.ofNat 32 r.val) (y := bound V n.castSucc) ?_).trans ?_
  · rw [BitVec.le_def, nat_of_word _ (by omega)]; exact h1
  · rw [nat_of_word _ (by omega)]

/-- The pairs (segment, place) of the rows. -/
def pairs : (⟨S4096x2, .i32⟩ : BufTy).Contents (Elt Ideal) :=
  concatenate S4096x2 1 [⟨S4096x1, (broadcastInDim S4096x1 ![0] bcast_S4096_S4096x1_0 (select (cmpi .slt (res_main_v21 V) (broadcastInDim S4096 ![] bcast_S_S4096 (constantI S_ 32 0#32))) (addi (res_main_v21 V) (broadcastInDim S4096 ![] bcast_S_S4096 (constantI S_ 32 16#32))) (res_main_v21 V)))⟩,
    ⟨S4096x1, (broadcastInDim S4096x1 ![0] bcast_S4096_S4096x1_0 (select (cmpi .slt (res_main_v29 V) (broadcastInDim S4096 ![] bcast_S_S4096 (constantI S_ 32 0#32))) (addi (res_main_v29 V) (broadcastInDim S4096 ![] bcast_S_S4096 (constantI S_ 32 512#32))) (res_main_v29 V)))⟩] concatenates_S4096x1_S4096x1_S4096x2_d1

theorem pairs_seg (h : InRange (bound V)) (n : Fin 16) (r : Fin 4096) (h1 : (bound V n.castSucc).toNat ≤ r) (h2 : r < (bound V n.succ).toNat) :
    pairs V (ix2 r 0) = BitVec.ofNat 32 n.val := by
  pointwise [pairs]
  rw [seg_word V h n r h1 h2]
  exact Routing.wrap_of_lt _ _ (by rw [nat_of_word _ (by omega)]; omega)

theorem pairs_pos (h : InRange (bound V)) (n : Fin 16) (r : Fin 4096) (h1 : (bound V n.castSucc).toNat ≤ r) (h2 : r < (bound V n.succ).toNat) :
    pairs V (ix2 r 1) = BitVec.ofNat 32 (r.val - (bound V n.castSucc).toNat) := by
  pointwise [pairs]
  rw [pos_word V h n r h1 h2]
  exact Routing.wrap_of_lt _ _ (by rw [nat_of_word _ (by omega)]; omega)

/-- Where the scatter of the rows reads its words. -/
theorem lands_start (idx : IVec S4096x2 32) (r : Fin 4096) (l : Fin 128) (a : Fin 3) :
    scatter_S16x512x128_S4096x2_S4096x128_1_01_01_1.start (ix2 r l) idx a = (![(idx (ix2 r 0)).toInt, (idx (ix2 r 1)).toInt, 0] : Fin 3 → ℤ) a := by
  have key : ∀ k, ∀ q : Fin 2, k.val = q.val → scatter_S16x512x128_S4096x2_S4096x128_1_01_01_1.siIdx (ix2 r l) k = ix2 r q := by
    intro k q hk
    funext b
    apply Fin.ext
    match b with
    | ⟨0, _⟩ => rfl
    | ⟨1, _⟩ => exact hk
  match a with
  | ⟨0, _⟩ => exact congrArg (fun x => (idx x).toInt) (key _ 0 rfl)
  | ⟨1, _⟩ => exact congrArg (fun x => (idx x).toInt) (key _ 1 rfl)
  | ⟨2, _⟩ => rfl

theorem lands_window (r : Fin 4096) (l : Fin 128) (a : Fin 3) :
    scatter_S16x512x128_S4096x2_S4096x128_1_01_01_1.window (ix2 r l) a = (![0, 0, l.val] : Fin 3 → ℕ) a := by
  match a with
  | ⟨0, _⟩ => rfl
  | ⟨1, _⟩ => rfl
  | ⟨2, _⟩ => rfl

/-- Row `r`, lane `l` lands at the place its two words name, in the same lane. -/
theorem lands (idx : IVec S4096x2 32) (r : Fin 4096) (l : Fin 128) (n : Fin 16) (p : Fin 512) (l' : Fin 128) :
    scatter_S16x512x128_S4096x2_S4096x128_1_01_01_1.resultIdx? (ix2 r l) idx = some (ix3 n p l')
      ↔ (idx (ix2 r 0)).toInt = n.val ∧ (idx (ix2 r 1)).toInt = p.val ∧ l = l' := by
  rw [Routing.resultIdx?_eq_some]
  constructor
  · intro h
    have e0 := h 0
    have e1 := h 1
    have e2 := h 2
    rw [lands_start, lands_window] at e0 e1 e2
    refine ⟨?_, ?_, Fin.ext ?_⟩
    · have : (idx (ix2 r 0)).toInt + ((0 : ℕ) : ℤ) = (n.val : ℤ) := e0
      omega
    · have : (idx (ix2 r 1)).toInt + ((0 : ℕ) : ℤ) = (p.val : ℤ) := e1
      omega
    · have : (0 : ℤ) + (l.val : ℤ) = (l'.val : ℤ) := e2
      omega
  · rintro ⟨h0, h1, rfl⟩ a
    rw [lands_start, lands_window]
    match a with
    | ⟨0, _⟩ => show (idx (ix2 r 0)).toInt + ((0 : ℕ) : ℤ) = (n.val : ℤ); omega
    | ⟨1, _⟩ => show (idx (ix2 r 1)).toInt + ((0 : ℕ) : ℤ) = (p.val : ℤ); omega
    | ⟨2, _⟩ => show (0 : ℤ) + (l.val : ℤ) = (l.val : ℤ); omega

theorem int_of_word (k : ℕ) (hk : k < 2 ^ 31) : (BitVec.ofNat 32 k).toInt = k := by
  rw [BitVec.toInt_eq_toNat_of_lt (by rw [nat_of_word _ hk]; omega), nat_of_word _ hk]

/-- Rows land at the place of their segment and of their number in the segment. -/
theorem lands_pairs (h : InRange (bound V)) (r : Fin 4096) (l : Fin 128) (n : Fin 16) (p : Fin 512) (l' : Fin 128) :
    scatter_S16x512x128_S4096x2_S4096x128_1_01_01_1.resultIdx? (ix2 r l) (pairs V) = some (ix3 n p l')
      ↔ ((bound V n.castSucc).toNat + p.val = r.val ∧ (bound V n.castSucc).toNat + p.val < (bound V n.succ).toNat) ∧ l = l' := by
  rw [lands]
  obtain ⟨k, h1, h2⟩ := h.segment r.val r.isLt
  rw [pairs_seg V h k r h1 h2, pairs_pos V h k r h1 h2, int_of_word _ (by omega), int_of_word _ (by omega), ← and_assoc]
  refine and_congr_left fun _ => ⟨fun ⟨e0, e1⟩ => ?_, fun ⟨e0, e1⟩ => ?_⟩
  · have e : k = n := Fin.ext (by omega)
    subst e
    omega
  · have hk : k = n := by
      refine Fin.ext (le_antisymm ?_ ?_)
      · have := (bound_le_iff h n r.val (by omega) (by omega) k.castSucc).1 (by omega)
        exact this
      · have := (bound_le_iff h k r.val h1 h2 n.castSucc).1 (by omega)
        exact this
    subst hk
    omega

/-- The rows scattered to their places: row `a + p` at place `p` of the segment `[a, b)`, the fill past the segment. -/
theorem scattered (h : InRange (bound V)) (x0 : Vec Ideal S16x512x128 .f32) (u : Vec Ideal S4096x128 .f32) (n : Fin 16) (p : Fin 512) (l : Fin 128) :
    Host.scatter scatter_S16x512x128_S4096x2_S4096x128_1_01_01_1 (fun _ b => b) x0 (pairs V) u (ix3 n p l)
      = if (bound V n.castSucc).toNat + p.val < (bound V n.succ).toNat then rowOf (fun r d => u (ix2 r d)) ((bound V n.castSucc).toNat + p.val) l else x0 (ix3 n p l) := by
  have hb : (bound V n.succ).toNat ≤ 4096 := small _ h _
  have two : ∀ k : S4096x128.Idx, k = ix2 (k 0) (k 1) := fun k => by
    funext a
    match a with
    | ⟨0, _⟩ => rfl
    | ⟨1, _⟩ => rfl
  split
  · next hc =>
    have hr : (bound V n.castSucc).toNat + p.val < 4096 := by omega
    refine Routing.scatter_set_hit _ x0 _ u _ _ (fun k hk => ?_) (ix2 ⟨_, hr⟩ l) ((lands_pairs V h _ l n p l).2 ⟨⟨rfl, hc⟩, rfl⟩)
    rw [two k] at hk
    obtain ⟨⟨e0, _⟩, e2⟩ := (lands_pairs V h (k 0) (k 1) n p l).1 hk
    rw [two k]
    unfold rowOf
    rw [dif_pos hr]
    exact congrArg₂ (fun r d => u (ix2 r d)) (Fin.ext e0.symm) e2
  · next hc =>
    refine Routing.scatter_set_miss _ x0 _ u _ fun k hk => hc ?_
    rw [two k] at hk
    exact ((lands_pairs V h (k 0) (k 1) n p l).1 hk).1.2

end Cert.ReferenceIdeal.Value

end
-- ==== Proof.RefScores.lean ====
/- The reference's projections, laid out by segment and place. -/
module

public import proofs.«01_k».proof.Proof.RefWords
public import Idealize.ShloMosaic.Lib.ReduceAll

@[expose] public section

set_option maxRecDepth 16384

noncomputable section

namespace Cert.ReferenceIdeal.Value

open Idealize.ShloMosaic Idealize.ShloMosaic.TcCoe Idealize.SL.Sem
open Cert.Attention Cert.ReferenceIdeal Cert.ReferenceIdeal.Gen

variable (V : Valuation τ sig (Elt Ideal))

/-- The queries, keys and values of the rows. -/
def refQ : Fin 4096 → Fin 128 → EReal :=
  lin (fun r d => V (Proc.devRef .tc main_arg0) (ix2 r d)) (fun d l => V (Proc.devRef .tc main_arg2) (ix2 d l)) fun l => V (Proc.devRef .tc main_arg5) (ix1 l)

def refK : Fin 4096 → Fin 128 → EReal :=
  lin (fun r d => V (Proc.devRef .tc main_arg0) (ix2 r d)) (fun d l => V (Proc.devRef .tc main_arg3) (ix2 d l)) fun l => V (Proc.devRef .tc main_arg6) (ix1 l)
def refV : Fin 4096 → Fin 128 → EReal :=
  lin (fun r d => V (Proc.devRef .tc main_arg0) (ix2 r d)) (fun d l => V (Proc.devRef .tc main_arg4) (ix2 d l)) fun l => V (Proc.devRef .tc main_arg7) (ix1 l)

/-- The first row of segment `n`, and the row after its last. -/
def lo (n : Fin 16) : ℕ := (bound V n.castSucc).toNat
def hi (n : Fin 16) : ℕ := (bound V n.succ).toNat

theorem ideal_top : Ideal.ofBits .f32 0x7F800000#32 = ⊤ := by simp [Ideal.ofBits, Ideal.ieee]
theorem ideal_zero : Ideal.ofBits .f32 0x00000000#32 = 0 := by simp [Ideal.ofBits, Ideal.ieee]
theorem ideal_bot : Ideal.ofBits .f32 0xFF800000#32 = ⊥ := by simp [Ideal.ofBits, Ideal.ieee]

/-- A projection of the rows: the product with the weights, plus the bias. -/
def proj (x : Vec Ideal S4096x128 .f32) (w : Vec Ideal S128x128 .f32) (b : Vec Ideal S128 .f32) : Vec Ideal S4096x128 .f32 :=
  addf (F := Ideal) (Host.dotGeneral (F := Ideal) (sl := S4096x128) (sr := S128x128) (so := S4096x128) (φ₁ := .f32) (φ₂ := .f32) dot_S4096x128_S128x128_S4096x128_1_0_0_1_n_n none x w) (broadcastInDim S4096x128 ![0, 1] bcast_S1x128_S4096x128_0_1 (broadcastInDim S1x128 ![1] bcast_S128_S1x128_1 b))

theorem proj_at (x : Vec Ideal S4096x128 .f32) (w : Vec Ideal S128x128 .f32) (b : Vec Ideal S128 .f32) (r : Fin 4096) (l : Fin 128) :
    proj x w b (ix2 r l) = lin (fun r d => x (ix2 r d)) (fun d l => w (ix2 d l)) (fun l => b (ix1 l)) r l := by
  pointwise [proj]
  rfl

/-- An array of segments by places by lanes, the same word everywhere. -/
def fill (w : BitVec 32) : Vec Ideal S16x512x128 .f32 := broadcastInDim S16x512x128 ![] bcast_S_S16x512x128 (constant (F := Ideal) S_ .f32 w)

theorem fill_at (w : BitVec 32) (i) : fill w i = Ideal.ofBits .f32 w := rfl

/-- The rows of an array laid at their places of their segments, over a fill. -/
def laid (w : BitVec 32) (u : Vec Ideal S4096x128 .f32) : Vec Ideal S16x512x128 .f32 :=
  Host.scatter scatter_S16x512x128_S4096x2_S4096x128_1_01_01_1 (fun _ b => b) (fill w) (pairs V) u

theorem v44_eq : res_main_v44 V = laid V 0xFF800000#32 (proj (V (Proc.devRef .tc main_arg0)) (V (Proc.devRef .tc main_arg2)) (V (Proc.devRef .tc main_arg5))) := by
  unfold res_main_v44 laid fill proj pairs
  rfl

theorem v59_eq : res_main_v59 V = laid V 0xFF800000#32 (proj (V (Proc.devRef .tc main_arg0)) (V (Proc.devRef .tc main_arg3)) (V (Proc.devRef .tc main_arg6))) := by
  unfold res_main_v59 laid fill proj pairs
  rfl

theorem laid_at (h : InRange (bound V)) (w : BitVec 32) (u : Vec Ideal S4096x128 .f32) (n : Fin 16) (p : Fin 512) (l : Fin 128) :
    laid V w u (ix3 n p l) = if lo V n + p.val < hi V n then rowOf (fun r d => u (ix2 r d)) (lo V n + p.val) l else Ideal.ofBits .f32 w :=
  scattered V h (fill w) u n p l

/-- The laid rows of a projection that is `q` row by row. -/
theorem laid_proj (h : InRange (bound V)) (w : BitVec 32) (v : EReal) (hw : Ideal.ofBits .f32 w = v) (x : Vec Ideal S4096x128 .f32) (W : Vec Ideal S128x128 .f32)
    (b : Vec Ideal S128 .f32) (n : Fin 16) (p : Fin 512) (l : Fin 128) :
    laid V w (proj x W b) (ix3 n p l)
      = if lo V n + p.val < hi V n then rowOf (lin (fun r d => x (ix2 r d)) (fun d l => W (ix2 d l)) (fun l => b (ix1 l))) (lo V n + p.val) l else v := by
  rw [laid_at V h, hw, show (fun r d => proj x W b (ix2 r d)) = lin (fun r d => x (ix2 r d)) (fun d l => W (ix2 d l)) (fun l => b (ix1 l)) from
    funext fun r => funext fun d => proj_at x W b r d]

/-- The laid queries and keys, over minus infinity. -/
theorem v44_at (h : InRange (bound V)) (n : Fin 16) (p : Fin 512) (l : Fin 128) :
    (res_main_v44 V : Vec Ideal S16x512x128 .f32) (ix3 n p l) = if lo V n + p.val < hi V n then rowOf (refQ V) (lo V n + p.val) l else (⊥ : EReal) :=
  (congrFun (v44_eq V) (ix3 n p l)).trans (laid_proj V h _ _ ideal_bot _ _ _ n p l)

theorem v59_at (h : InRange (bound V)) (n : Fin 16) (p : Fin 512) (l : Fin 128) :
    (res_main_v59 V : Vec Ideal S16x512x128 .f32) (ix3 n p l) = if lo V n + p.val < hi V n then rowOf (refK V) (lo V n + p.val) l else (⊥ : EReal) :=
  (congrFun (v59_eq V) (ix3 n p l)).trans (laid_proj V h _ _ ideal_bot _ _ _ n p l)

/-- The values laid at their places, over zeros. -/
def laidV : Vec Ideal S16x512x128 .f32 :=
  laid V 0x00000000#32 (proj (V (Proc.devRef .tc main_arg0)) (V (Proc.devRef .tc main_arg4)) (V (Proc.devRef .tc main_arg7)))

theorem laidV_at (h : InRange (bound V)) (n : Fin 16) (p : Fin 512) (l : Fin 128) :
    laidV V (ix3 n p l) = if lo V n + p.val < hi V n then rowOf (refV V) (lo V n + p.val) l else (0 : EReal) :=
  laid_proj V h _ _ ideal_zero _ _ _ n p l

end Cert.ReferenceIdeal.Value

end
-- ==== Proof.RefMasks.lean ====
/- The reference's masked scores, at a place of a segment. -/
module

public import proofs.«01_k».proof.Proof.RefScores

@[expose] public section

set_option maxRecDepth 16384

noncomputable section

namespace Cert.ReferenceIdeal.Value

open Idealize.ShloMosaic Idealize.ShloMosaic.TcCoe Idealize.SL.Sem
open Cert.Attention Cert.ReferenceIdeal Cert.ReferenceIdeal.Gen

variable (V : Valuation τ sig (Elt Ideal))

/-- The reference's test of an element that is real where `P` and minus infinity elsewhere: not an infinity exactly where `P`. -/
theorem mask_word (P : Prop) [Decidable P] (x : EReal) (hx : IsReal x) :
    ~~~BitVec.ofBool (decide (FloatOps.absf (F := Ideal) (φ := .f32) (if P then x else ⊥ : EReal) = (⊤ : EReal))) = if P then 1#1 else 0#1 := by
  by_cases hp : P
  · rw [if_pos hp, if_pos hp]
    obtain ⟨y, rfl⟩ := hx.lift
    have e : FloatOps.absf (F := Ideal) (φ := .f32) (y : EReal) ≠ (⊤ : EReal) := by
      rw [Ideal.absf_def, ← EReal.coe_neg]
      rcases max_choice (y : EReal) ((-y : ℝ) : EReal) with h | h <;> rw [h] <;> exact EReal.coe_ne_top _
    rw [decide_eq_false e]
    rfl
  · rw [if_neg hp, if_neg hp]
    have e : FloatOps.absf (F := Ideal) (φ := .f32) (⊥ : EReal) = (⊤ : EReal) := by
      rw [Ideal.absf_def, EReal.neg_bot]
      exact max_eq_right bot_le
    rw [decide_eq_true e]
    rfl

/-- The mask array of an array that is real where `P` and minus infinity elsewhere. -/
def notInf (x : Vec Ideal S16x512x128 .f32) : (⟨S16x512x128, .i1⟩ : BufTy).Contents (Elt Ideal) :=
  noti (cmpf (F := Ideal) .oeq (Host.absf x) (broadcastInDim S16x512x128 ![] bcast_S_S16x512x128 (constant (F := Ideal) S_ .f32 0x7F800000#32)))

theorem notInf_at (x : Vec Ideal S16x512x128 .f32) (i : S16x512x128.Idx) (P : Prop) [Decidable P] (y : EReal) (hy : IsReal y) (hx : x i = if P then y else (⊥ : EReal)) :
    notInf x i = if P then 1#1 else 0#1 := by
  pointwise [notInf, ideal_top, hx]
  exact mask_word _ _ hy

theorem v76_eq : res_main_v76 V = notInf (res_main_v44 V) := rfl
theorem v78_eq : res_main_v78 V = notInf (res_main_v59 V) := rfl

/-- The scores of laid queries and keys under their masks, before the diagonal is masked. -/
def scoresOf (mq mk : (⟨S16x512x128, .i1⟩ : BufTy).Contents (Elt Ideal)) (q k : Vec Ideal S16x512x128 .f32) : Vec Ideal S16x512x512 .f32 :=
  select (cmpf (F := Ideal) (φ := .f32) .ogt (Host.dotGeneral dot_S16x512x128_S16x512x128_S16x512x512_2_2_1_1_0_0 none (uitofp (F := Ideal) .f32 mq) (uitofp (F := Ideal) .f32 mk) : (⟨S16x512x512, .f32⟩ : BufTy).Contents (Elt Ideal)) (broadcastInDim S16x512x512 ![] bcast_S_S16x512x512 (constant (F := Ideal) S_ .f32 0x00000000#32)))
    (Host.dotGeneral (F := Ideal) (φ₁ := .f32) (φ₂ := .f32) dot_S16x512x128_S16x512x128_S16x512x512_2_2_1_1_0_0 none (select mq q (broadcastInDim S16x512x128 ![] bcast_S_S16x512x128 (id (constant (F := Ideal) S_ .f32 0x00000000#32)))) (select mk k (broadcastInDim S16x512x128 ![] bcast_S_S16x512x128 (id (constant (F := Ideal) S_ .f32 0x00000000#32)))))
    (broadcastInDim S16x512x512 ![] bcast_S_S16x512x512 (id (constant (F := Ideal) S_ .f32 0xFF800000#32)))

theorem uitofp_one : (FloatOps.uitofp .f32 (1#1 : BitVec 1) : Ideal .f32) = (1 : EReal) := by
  show (((1#1 : BitVec 1).toNat : ℝ) : EReal) = 1
  simp
theorem uitofp_zero : (FloatOps.uitofp .f32 (0#1 : BitVec 1) : Ideal .f32) = (0 : EReal) := by
  show (((0#1 : BitVec 1).toNat : ℝ) : EReal) = 0
  simp

theorem scoresOf_in (mq mk : (⟨S16x512x128, .i1⟩ : BufTy).Contents (Elt Ideal)) (q k : Vec Ideal S16x512x128 .f32) (n : Fin 16) (p p' : Fin 512)
    (hq : ∀ d : Fin 128, mq (ix3 n p d) = 1#1) (hk : ∀ d : Fin 128, mk (ix3 n p' d) = 1#1) :
    scoresOf mq mk q k (ix3 n p p') = ∑ d : Fin 128, (q (ix3 n p d) : EReal) * k (ix3 n p' d) := by
  pointwise [scoresOf, hq, hk, uitofp_one]
  have e : (0 : EReal) < ∑ _x : Fin 128, (1 : EReal) :=
    lt_of_lt_of_le zero_lt_one (Finset.single_le_sum (f := fun _ : Fin 128 => (1 : EReal)) (fun _ _ => zero_le_one) (Finset.mem_univ 0))
  exact if_pos e

theorem scoresOf_out (mq mk : (⟨S16x512x128, .i1⟩ : BufTy).Contents (Elt Ideal)) (q k : Vec Ideal S16x512x128 .f32) (n : Fin 16) (p p' : Fin 512)
    (hk : ∀ d : Fin 128, mk (ix3 n p' d) = 0#1) :
    scoresOf mq mk q k (ix3 n p p') = (⊥ : EReal) := by
  pointwise [scoresOf, hk, uitofp_zero, ideal_bot]
  refine (if_neg ?_).trans ideal_bot
  simp only [mul_zero, Finset.sum_const_zero, lt_irrefl, not_false_eq_true]

/-- The diagonal pairs. -/
def diagonal : (⟨S512x2, .i32⟩ : BufTy).Contents (Elt Ideal) :=
  concatenate S512x2 1 [⟨S512x1, (broadcastInDim S512x1 ![0] bcast_S512_S512x1_0 (select (cmpi .slt (res_main_v88 V) (broadcastInDim S512 ![] bcast_S_S512 (constantI S_ 32 0#32))) (addi (res_main_v88 V) (broadcastInDim S512 ![] bcast_S_S512 (constantI S_ 32 512#32))) (res_main_v88 V)))⟩, ⟨S512x1, (broadcastInDim S512x1 ![0] bcast_S512_S512x1_0 (select (cmpi .slt (res_main_v88 V) (broadcastInDim S512 ![] bcast_S_S512 (constantI S_ 32 0#32))) (addi (res_main_v88 V) (broadcastInDim S512 ![] bcast_S_S512 (constantI S_ 32 512#32))) (res_main_v88 V)))⟩] concatenates_S512x1_S512x1_S512x2_d1

theorem diagonal_at (i : Fin 512) (k : Fin 2) : (diagonal V (ix2 i k)).toInt = i.val := by
  have e : diagonal V (ix2 i k) = BitVec.ofNat 32 i.val := by
    match k with
    | ⟨0, _⟩ =>
      pointwise [diagonal, res_main_v88]
      exact Routing.wrap_of_lt _ _ (by rw [nat_of_word _ (by omega)]; omega)
    | ⟨1, _⟩ =>
      pointwise [diagonal, res_main_v88]
      exact Routing.wrap_of_lt _ _ (by rw [nat_of_word _ (by omega)]; omega)
  rw [e, int_of_word _ (by omega)]

theorem diag_start (idx : IVec S512x2 32) (n : Fin 16) (i : Fin 512) (a : Fin 3) :
    scatter_S16x512x512_S512x2_S16x512_0_12_12_1.start (ix2 n i) idx a = (![0, (idx (ix2 i 0)).toInt, (idx (ix2 i 1)).toInt] : Fin 3 → ℤ) a := by
  have key : ∀ k, ∀ q : Fin 2, k.val = q.val → scatter_S16x512x512_S512x2_S16x512_0_12_12_1.siIdx (ix2 n i) k = ix2 i q := by
    intro k q hk
    funext b
    apply Fin.ext
    match b with
    | ⟨0, _⟩ => rfl
    | ⟨1, _⟩ => exact hk
  match a with
  | ⟨0, _⟩ => rfl
  | ⟨1, _⟩ => exact congrArg (fun x => (idx x).toInt) (key _ 0 rfl)
  | ⟨2, _⟩ => exact congrArg (fun x => (idx x).toInt) (key _ 1 rfl)

theorem diag_window (n : Fin 16) (i : Fin 512) (a : Fin 3) :
    scatter_S16x512x512_S512x2_S16x512_0_12_12_1.window (ix2 n i) a = (![n.val, 0, 0] : Fin 3 → ℕ) a := by
  match a with
  | ⟨0, _⟩ => rfl
  | ⟨1, _⟩ => rfl
  | ⟨2, _⟩ => rfl

/-- An update of the diagonal scatter lands on the diagonal. -/
theorem diag_lands (n : Fin 16) (i : Fin 512) (n' : Fin 16) (p p' : Fin 512) :
    scatter_S16x512x512_S512x2_S16x512_0_12_12_1.resultIdx? (ix2 n i) (diagonal V) = some (ix3 n' p p') ↔ n = n' ∧ i = p ∧ i = p' := by
  rw [Routing.resultIdx?_eq_some]
  have d0 := diagonal_at V i 0
  have d1 := diagonal_at V i 1
  constructor
  · intro h
    have e0 := h 0
    have e1 := h 1
    have e2 := h 2
    rw [diag_start, diag_window] at e0 e1 e2
    refine ⟨Fin.ext ?_, Fin.ext ?_, Fin.ext ?_⟩
    · have : (0 : ℤ) + (n.val : ℤ) = (n'.val : ℤ) := e0
      omega
    · have : (diagonal V (ix2 i 0)).toInt + ((0 : ℕ) : ℤ) = (p.val : ℤ) := e1
      omega
    · have : (diagonal V (ix2 i 1)).toInt + ((0 : ℕ) : ℤ) = (p'.val : ℤ) := e2
      omega
  · rintro ⟨rfl, rfl, rfl⟩ a
    rw [diag_start, diag_window]
    match a with
    | ⟨0, _⟩ => show (0 : ℤ) + (n.val : ℤ) = (n.val : ℤ); omega
    | ⟨1, _⟩ => show (diagonal V (ix2 i 0)).toInt + ((0 : ℕ) : ℤ) = (i.val : ℤ); omega
    | ⟨2, _⟩ => show (diagonal V (ix2 i 1)).toInt + ((0 : ℕ) : ℤ) = (i.val : ℤ); omega

theorem diag_scattered (x0 : Vec Ideal S16x512x512 .f32) (u : Vec Ideal S16x512 .f32) (v : EReal) (hu : ∀ k, u k = v) (n : Fin 16) (p p' : Fin 512) :
    Host.scatter scatter_S16x512x512_S512x2_S16x512_0_12_12_1 (fun _ b => b) x0 (diagonal V) u (ix3 n p p') = if p = p' then v else x0 (ix3 n p p') := by
  have two : ∀ k : S16x512.Idx, k = ix2 (k 0) (k 1) := fun k => by
    funext a
    match a with
    | ⟨0, _⟩ => rfl
    | ⟨1, _⟩ => rfl
  split
  · next hc =>
    subst hc
    exact Routing.scatter_set_hit _ x0 _ u _ _ (fun k _ => hu k) (ix2 n p) ((diag_lands V _ _ _ _ _).2 ⟨rfl, rfl, rfl⟩)
  · next hc =>
    refine Routing.scatter_set_miss _ x0 _ u _ fun k hk => hc ?_
    rw [two k] at hk
    obtain ⟨_, e1, e2⟩ := (diag_lands V _ _ _ _ _).1 hk
    exact e1.symm.trans e2

theorem v103_eq : res_main_v103 V = Host.scatter scatter_S16x512x512_S512x2_S16x512_0_12_12_1 (fun _ b => b)
    (scoresOf (notInf (res_main_v44 V)) (notInf (res_main_v59 V)) (res_main_v44 V) (res_main_v59 V)) (diagonal V)
    (broadcastInDim S16x512 ![] bcast_S_S16x512 (constant (F := Ideal) S_ .f32 0xFF800000#32)) := by
  unfold res_main_v103 scoresOf diagonal
  rfl

/-- The scores at a place of a segment: the masked scores of the row there. -/
theorem v103_at (h : InRange (bound V)) (hq : ∀ r l, IsReal (refQ V r l)) (hk : ∀ r l, IsReal (refK V r l)) (n : Fin 16) (p p' : Fin 512)
    (hp : lo V n + p.val < hi V n) :
    (res_main_v103 V : Vec Ideal S16x512x512 .f32) (ix3 n p p') = masked (refQ V) (refK V) (lo V n) (hi V n) (lo V n + p.val) (lo V n + p'.val) := by
  have mq : ∀ (p : Fin 512) (d : Fin 128), notInf (res_main_v44 V) (ix3 n p d) = if lo V n + p.val < hi V n then 1#1 else 0#1 :=
    fun p d => notInf_at _ _ _ _ (IsReal.rowOf hq _ _) (v44_at V h n p d)
  have mk : ∀ (p : Fin 512) (d : Fin 128), notInf (res_main_v59 V) (ix3 n p d) = if lo V n + p.val < hi V n then 1#1 else 0#1 :=
    fun p d => notInf_at _ _ _ _ (IsReal.rowOf hk _ _) (v59_at V h n p d)
  refine (congrFun (v103_eq V) (ix3 n p p')).trans ((diag_scattered V _ _ ⊥ (fun k => ideal_bot) n p p').trans ?_)
  unfold masked
  by_cases e : p = p'
  · subst e
    rw [if_pos rfl, if_neg (by omega)]
  · have hne : p.val ≠ p'.val := fun h => e (Fin.ext h)
    rw [if_neg e]
    by_cases hp' : lo V n + p'.val < hi V n
    · rw [if_pos (by omega), scoresOf_in _ _ _ _ n p p' (fun d => (mq p d).trans (if_pos hp)) (fun d => (mk p' d).trans (if_pos hp'))]
      refine Finset.sum_congr rfl fun d _ => ?_
      exact congrArg₂ (fun x y : EReal => x * y) ((v44_at V h n p d).trans (if_pos hp)) ((v59_at V h n p' d).trans (if_pos hp'))
    · rw [if_neg (by omega), scoresOf_out _ _ _ _ n p p' (fun d => (mk p' d).trans (if_neg hp'))]

end Cert.ReferenceIdeal.Value

end
-- ==== Proof.RefValue.lean ====
/- The reference's result at a row: the attention over the row's segment. -/
module

public import proofs.«01_k».proof.Proof.RefMasks

@[expose] public section

set_option maxRecDepth 16384

noncomputable section

namespace Cert.ReferenceIdeal.Value

open Idealize.ShloMosaic Idealize.ShloMosaic.TcCoe Idealize.SL.Sem
open Cert.Attention Cert.ReferenceIdeal Cert.ReferenceIdeal.Gen

variable (V : Valuation τ sig (Elt Ideal))

/- The maximum on the extended reals commutes and associates. -/
instance : Std.Commutative (FloatOps.maximumf (F := Ideal) (φ := .f32)) := ⟨fun a b => max_comm (α := EReal) a b⟩
instance : Std.Associative (FloatOps.maximumf (F := Ideal) (φ := .f32)) := ⟨fun a b c => max_assoc (α := EReal) a b c⟩

/-- The greatest score of each place. -/
def maxOf (t : Vec Ideal S16x512x512 .f32) : Vec Ideal S16x512 .f32 :=
  Host.reduce (FloatOps.maximumf (F := Ideal) (φ := .f32)) t (constant (F := Ideal) S_ .f32 0xFF800000#32) reducesTo_S16x512x512_S16x512_d2 h_S_

theorem maxOf_at (t : Vec Ideal S16x512x512 .f32) (n : Fin 16) (p : Fin 512) :
    maxOf t (ix2 n p) = Finset.univ.fold max ⊥ fun x : Fin 512 => (t (ix3 n p x) : EReal) := by
  unfold maxOf
  refine (Host.reduce_eq_fold _ _ _ _ _ _).trans ?_
  refine (Shape.ReducesTo.fold_fiber_r3_a2 _ _ _ _ _).trans ?_
  rw [show (constant (F := Ideal) S_ .f32 0xFF800000#32 (Shape.Idx.first h_S_) : EReal) = ⊥ from ideal_bot]
  rfl

/-- An array of places spread along a third axis. -/
def spread (x : Vec Ideal S16x512 .f32) : Vec Ideal S16x512x512 .f32 :=
  broadcastInDim S16x512x512 ![0, 1, 2] bcast_S16x512x1_S16x512x512_0_1_2 (broadcastInDim S16x512x1 ![0, 1] bcast_S16x512_S16x512x1_0_1 x)

theorem spread_at (x : Vec Ideal S16x512 .f32) (n : Fin 16) (p p' : Fin 512) : spread x (ix3 n p p') = x (ix2 n p) := by
  pointwise [spread]

/-- The exponentials of scores less the greatest of their place. -/
def expOf (t : Vec Ideal S16x512x512 .f32) : Vec Ideal S16x512x512 .f32 :=
  Host.exp (F := Ideal) (φ := .f32) (subf t (spread (maximumf (broadcastInDim S16x512 ![] bcast_S_S16x512 (constant (F := Ideal) S_ .f32 0xFF800000#32)) (maxOf t))))

theorem expOf_at (t : Vec Ideal S16x512x512 .f32) (n : Fin 16) (p p' : Fin 512) :
    expOf t (ix3 n p p') = Ideal.exp ((t (ix3 n p p') : EReal) - Finset.univ.fold max ⊥ fun x : Fin 512 => (t (ix3 n p x) : EReal)) := by
  have e : spread (maximumf (broadcastInDim S16x512 ![] bcast_S_S16x512 (constant (F := Ideal) S_ .f32 0xFF800000#32)) (maxOf t)) (ix3 n p p')
      = Finset.univ.fold max ⊥ fun x : Fin 512 => (t (ix3 n p x) : EReal) := by
    rw [spread_at, maximumf_apply, maxOf_at]
    refine Eq.trans (congrArg (fun z : EReal => max z _) ideal_bot) (max_eq_right bot_le)
  have e2 : ∀ u : Vec Ideal S16x512x512 .f32, Host.exp (F := Ideal) (φ := .f32) (subf t u) (ix3 n p p') = Ideal.exp ((t (ix3 n p p') : EReal) - u (ix3 n p p')) := fun u => rfl
  unfold expOf
  rw [e2, e]

/-- The sums of each place. -/
def sumOf (e : Vec Ideal S16x512x512 .f32) : Vec Ideal S16x512 .f32 :=
  Host.reduceAdd (F := Ideal) (φ := .f32) e (constant (F := Ideal) S_ .f32 0x00000000#32) reducesTo_S16x512x512_S16x512_d2 h_S_

theorem sumOf_at (e : Vec Ideal S16x512x512 .f32) (n : Fin 16) (p : Fin 512) : sumOf e (ix2 n p) = ∑ x : Fin 512, (e (ix3 n p x) : EReal) := by
  pointwise [sumOf]

/-- An array divided by the sums of its places. -/
def shares (e : Vec Ideal S16x512x512 .f32) : Vec Ideal S16x512x512 .f32 := Host.divf (F := Ideal) (φ := .f32) e (spread (sumOf e))

theorem shares_at (e : Vec Ideal S16x512x512 .f32) (n : Fin 16) (p p' : Fin 512) :
    shares e (ix3 n p p') = Ideal.div (e (ix3 n p p') : EReal) (∑ x : Fin 512, (e (ix3 n p x) : EReal)) := by
  have e2 : ∀ u : Vec Ideal S16x512x512 .f32, Host.divf (F := Ideal) (φ := .f32) e u (ix3 n p p') = Ideal.div (e (ix3 n p p') : EReal) (u (ix3 n p p')) := fun u => rfl
  unfold shares
  rw [e2, spread_at, sumOf_at]

/-- Whether a score is minus infinity. -/
def isInf (s : Vec Ideal S16x512x512 .f32) : (⟨S16x512x512, .i1⟩ : BufTy).Contents (Elt Ideal) :=
  cmpf (F := Ideal) (φ := .f32) .oeq s (broadcastInDim S16x512x512 ![] bcast_S_S16x512x512 (constant (F := Ideal) S_ .f32 0xFF800000#32))

theorem isInf_at (s : Vec Ideal S16x512x512 .f32) (i : S16x512x512.Idx) (h : isInf s i = 1#1) : (s i : EReal) = ⊥ := by
  have e : isInf s i = BitVec.ofBool (decide ((s i : EReal) = ⊥)) := by
    pointwise [isInf, ideal_bot]
  rw [e] at h
  by_contra hc
  rw [decide_eq_false hc] at h
  exact absurd h (by decide)

/-- Whether every score of a place is minus infinity. -/
def marked (s : Vec Ideal S16x512x512 .f32) : (⟨S16x512, .i1⟩ : BufTy).Contents (Elt Ideal) :=
  Host.reduce IntOp.andi (isInf s) (constantI S_ 1 1#1) reducesTo_S16x512x512_S16x512_d2 h_S_

/-- A place with a score above minus infinity is not marked. -/
theorem marked_at (s : Vec Ideal S16x512x512 .f32) (n : Fin 16) (p p' : Fin 512) (h : (s (ix3 n p p') : EReal) ≠ ⊥) : marked s (ix2 n p) = 0#1 := by
  rcases (by decide : ∀ w : BitVec 1, w = 0#1 ∨ w = 1#1) (marked s (ix2 n p)) with hw | hw
  · exact hw
  · refine absurd (isInf_at s (ix3 n p p') ?_) h
    refine Host.reduce_andi_eq_one (isInf s) (constantI S_ 1 1#1) reducesTo_S16x512x512_S16x512_d2 h_S_ (ix2 n p) hw (ix3 n p p') ?_
    funext a
    match a with
    | ⟨0, _⟩ => rfl
    | ⟨1, _⟩ => rfl

/-- The marks of the places, with a third axis of one. -/
def column (w : (⟨S16x512, .i1⟩ : BufTy).Contents (Elt Ideal)) : (⟨S16x512x1, .i1⟩ : BufTy).Contents (Elt Ideal) :=
  broadcastInDim S16x512x1 ![0, 1] bcast_S16x512_S16x512x1_0_1 w

/-- An array of scores with zero in the places that are marked. -/
def zeroed (w : (⟨S16x512x1, .i1⟩ : BufTy).Contents (Elt Ideal)) (s : Vec Ideal S16x512x512 .f32) : Vec Ideal S16x512x512 .f32 :=
  select (broadcastInDim S16x512x512 ![0, 1, 2] bcast_S16x512x1_S16x512x512_0_1_2 w) (broadcastInDim S16x512x512 ![] bcast_S_S16x512x512 (id (constant (F := Ideal) S_ .f32 0x00000000#32))) s

theorem zeroed_at (w : (⟨S16x512, .i1⟩ : BufTy).Contents (Elt Ideal)) (s : Vec Ideal S16x512x512 .f32) (n : Fin 16) (p p' : Fin 512) (h : w (ix2 n p) = 0#1) :
    zeroed (column w) s (ix3 n p p') = s (ix3 n p p') := by
  pointwise [zeroed, column, h]

/-- The sums of the values under an array of shares. -/
def mixed (p : Vec Ideal S16x512x512 .f32) (v : Vec Ideal S16x512x128 .f32) : Vec Ideal S16x512x128 .f32 :=
  Host.dotGeneral (F := Ideal) (φ₁ := .f32) (φ₂ := .f32) dot_S16x512x512_S16x512x128_S16x512x128_2_1_1_2_0_0 none p v

theorem mixed_at (s : Vec Ideal S16x512x512 .f32) (v : Vec Ideal S16x512x128 .f32) (n : Fin 16) (p : Fin 512) (l : Fin 128) :
    mixed s v (ix3 n p l) = ∑ x : Fin 512, (s (ix3 n p x) : EReal) * v (ix3 n x l) := by
  pointwise [mixed]

/-- The gather of the rows from their places. -/
theorem gathered (x : Vec Ideal S16x512x128 .f32) (idx : (⟨S4096x2, .i32⟩ : BufTy).Contents (Elt Ideal)) (r : Fin 4096) (l : Fin 128) (n : Fin 16) (p : Fin 512)
    (h0 : idx (ix2 r 0) = BitVec.ofNat 32 n.val) (h1 : idx (ix2 r 1) = BitVec.ofNat 32 p.val) :
    Host.gather gather_S16x512x128_S4096x2_S4096x128_1_01_n_n_01_1_11128 x idx (ix2 r l) = x (ix3 n p l) := by
  have key : ∀ k, ∀ q : Fin 2, k.val = q.val → gather_S16x512x128_S4096x2_S4096x128_1_01_n_n_01_1_11128.siIdx (ix2 r l) k = ix2 r q := by
    intro k q hk
    funext b
    apply Fin.ext
    match b with
    | ⟨0, _⟩ => rfl
    | ⟨1, _⟩ => exact hk
  have start : ∀ a : Fin 3, gather_S16x512x128_S4096x2_S4096x128_1_01_n_n_01_1_11128.start (ix2 r l) idx a
      = (![min (idx (ix2 r 0)).toInt.toNat 15, min (idx (ix2 r 1)).toInt.toNat 511, 0] : Fin 3 → ℕ) a := fun a => by
    match a with
    | ⟨0, _⟩ => exact congrArg (fun x => min (idx x).toInt.toNat 15) (key _ 0 rfl)
    | ⟨1, _⟩ => exact congrArg (fun x => min (idx x).toInt.toNat 511) (key _ 1 rfl)
    | ⟨2, _⟩ => rfl
  have s0 : gather_S16x512x128_S4096x2_S4096x128_1_01_n_n_01_1_11128.start (ix2 r l) idx 0 = min (idx (ix2 r 0)).toInt.toNat 15 := start 0
  have s1 : gather_S16x512x128_S4096x2_S4096x128_1_01_n_n_01_1_11128.start (ix2 r l) idx 1 = min (idx (ix2 r 1)).toInt.toNat 511 := start 1
  have s2 : gather_S16x512x128_S4096x2_S4096x128_1_01_n_n_01_1_11128.start (ix2 r l) idx 2 = 0 := start 2
  rw [h0, int_of_word _ (by omega)] at s0
  rw [h1, int_of_word _ (by omega)] at s1
  refine congrArg x (funext fun a => Fin.ext ?_)
  match a with
  | ⟨0, _⟩ =>
    refine (congrArg (fun t => t + 0 + 0) s0).trans ?_
    show min n.val 15 = n.val
    omega
  | ⟨1, _⟩ =>
    refine (congrArg (fun t => t + 0 + 0) s1).trans ?_
    show min p.val 511 = p.val
    omega
  | ⟨2, _⟩ =>
    refine (congrArg (fun t => t + 0 + l.val) s2).trans ?_
    show 0 + l.val = l.val
    omega

theorem v107_eq : res_main_v107 V = column (marked (res_main_v103 V)) := rfl
theorem v115_eq : res_main_v115 V = expOf (zeroed (column (marked (res_main_v103 V))) (res_main_v103 V)) := rfl

/-- The result of the reference. -/
def refOut : Vec Ideal S4096x128 .f32 :=
  Host.gather gather_S16x512x128_S4096x2_S4096x128_1_01_n_n_01_1_11128 (mixed (zeroed (res_main_v107 V) (shares (res_main_v115 V))) (laidV V)) (pairs V)

end Cert.ReferenceIdeal.Value

end
-- ==== Proof.RefRow.lean ====
/- Row by row, the reference's result is the attention over the row's segment. -/
module

public import proofs.«01_k».proof.Proof.RefValue

@[expose] public section

set_option maxRecDepth 16384

noncomputable section

namespace Cert.ReferenceIdeal.Value

open Idealize.ShloMosaic Idealize.ShloMosaic.TcCoe Idealize.SL.Sem
open Cert.Attention Cert.ReferenceIdeal Cert.ReferenceIdeal.Gen

variable (V : Valuation τ sig (Elt Ideal))

/-- A segment has at most 512 rows and at least two. -/
theorem room (h : InRange (bound V)) (n : Fin 16) : hi V n ≤ lo V n + 512 ∧ lo V n + 2 ≤ hi V n := by
  have h1 := h n.castSucc
  have h2 := h n.succ
  have s1 := slack_le n.castSucc
  have s2 := slack_le n.succ
  have e1 : (n.castSucc : Fin 17).val = n.val := rfl
  have e2 : (n.succ : Fin 17).val = n.val + 1 := rfl
  rw [e1] at h1
  rw [e2] at h2
  unfold lo hi
  omega

/-- Another row of the segment. -/
theorem other (h : InRange (bound V)) (n : Fin 16) (p : Fin 512) : ∃ p' : Fin 512, lo V n + p'.val < hi V n ∧ lo V n + p'.val ≠ lo V n + p.val := by
  have := room V h n
  by_cases e : p.val = 0
  · exact ⟨1, by show lo V n + 1 < hi V n; omega, by show lo V n + 1 ≠ _; omega⟩
  · exact ⟨0, by show lo V n + 0 < hi V n; omega, by show lo V n + 0 ≠ _; omega⟩

/-- At a place of a segment the exponentials are the weights of the row there. -/
theorem weight_at (h : InRange (bound V)) (hq : ∀ r l, IsReal (refQ V r l)) (hk : ∀ r l, IsReal (refK V r l)) (n : Fin 16) (p : Fin 512)
    (hp : lo V n + p.val < hi V n) :
    marked (res_main_v103 V) (ix2 n p) = 0#1
      ∧ ∀ p' : Fin 512, expOf (zeroed (column (marked (res_main_v103 V))) (res_main_v103 V)) (ix3 n p p')
          = weight (refQ V) (refK V) (lo V n) (hi V n) (lo V n + p.val) (lo V n + p'.val) := by
  obtain ⟨o, ho1, ho2⟩ := other V h n p
  have hs := fun p' => v103_at V h hq hk n p p' hp
  have hm : marked (res_main_v103 V) (ix2 n p) = 0#1 := by
    refine marked_at _ n p o fun hc => ?_
    have e := (hs o).symm.trans hc
    unfold masked at e
    rw [if_pos ⟨Nat.le_add_right _ _, ho1, ho2⟩] at e
    exact (IsReal.score hq hk _ _).1 e
  refine ⟨hm, fun p' => ?_⟩
  have hz := fun p' => (zeroed_at _ (res_main_v103 V) n p p' hm).trans (hs p')
  have hf : (fun x : Fin 512 => (zeroed (column (marked (res_main_v103 V))) (res_main_v103 V) (ix3 n p x) : EReal))
      = fun x : Fin 512 => masked (refQ V) (refK V) (lo V n) (hi V n) (lo V n + p.val) (lo V n + x.val) := funext hz
  rw [expOf_at, hf, sup_window (le_refl _) (room V h n).1 (masked (refQ V) (refK V) (lo V n) (hi V n) (lo V n + p.val)) fun j hj => if_neg fun hc => hj ⟨hc.1, hc.2.1⟩]
  unfold weight top
  exact congrArg (fun z : EReal => Ideal.exp (z - (Finset.Ico (lo V n) (hi V n)).sup (masked (refQ V) (refK V) (lo V n) (hi V n) (lo V n + p.val)))) (hz p')

/-- At a place of a segment the mixed values are the attention of the row there. -/
theorem mixed_row (h : InRange (bound V)) (hq : ∀ r l, IsReal (refQ V r l)) (hk : ∀ r l, IsReal (refK V r l)) (n : Fin 16) (p : Fin 512) (l : Fin 128)
    (hp : lo V n + p.val < hi V n) :
    mixed (zeroed (res_main_v107 V) (shares (res_main_v115 V))) (laidV V) (ix3 n p l)
      = attend (refQ V) (refK V) (refV V) (lo V n) (hi V n) (lo V n + p.val) l := by
  obtain ⟨hm, hw⟩ := weight_at V h hq hk n p hp
  obtain ⟨o, ho1, ho2⟩ := other V h n p
  have hroom := room V h n
  have hsum : ∑ x : Fin 512, (expOf (zeroed (column (marked (res_main_v103 V))) (res_main_v103 V)) (ix3 n p x) : EReal)
      = ∑ j ∈ Finset.Ico (lo V n) (hi V n), weight (refQ V) (refK V) (lo V n) (hi V n) (lo V n + p.val) j :=
    (Finset.sum_congr rfl fun x _ => hw x).trans
      (sum_window (le_refl _) hroom.1 (weight (refQ V) (refK V) (lo V n) (hi V n) (lo V n + p.val)) fun j hj => weight_outside _ _ _ _ _ _ hj)
  obtain ⟨w, hw0, ew⟩ := weights_real hq hk (Nat.le_add_right (lo V n) o.val) ho1 ho2
  have zero : ∀ j, ¬ (lo V n ≤ j ∧ j < hi V n) → Ideal.div (weight (refQ V) (refK V) (lo V n) (hi V n) (lo V n + p.val) j)
      (∑ j ∈ Finset.Ico (lo V n) (hi V n), weight (refQ V) (refK V) (lo V n) (hi V n) (lo V n + p.val) j) * rowOf (refV V) j l = 0 := fun j hj => by
    rw [weight_outside _ _ _ _ _ _ hj, ew, Ideal.div_coe (ne_of_gt hw0), zero_mul, zero_mul]
  rw [v107_eq, v115_eq, mixed_at, ← attend_divided (refV V) hq hk (Nat.le_add_right (lo V n) o.val) ho1 ho2 l,
    ← sum_window (le_refl _) hroom.1 _ zero]
  refine Finset.sum_congr rfl fun x _ => ?_
  rw [zeroed_at _ _ n p x hm, shares_at, hsum, hw x, laidV_at V h n x l]
  split
  · rfl
  · next hc =>
    rw [mul_zero, zero _ (by omega)]

/-- Row `r` of the reference's result is the attention over the row's segment. -/
theorem refOut_row (h : InRange (bound V)) (hq : ∀ r l, IsReal (refQ V r l)) (hk : ∀ r l, IsReal (refK V r l)) (n : Fin 16) (r : Fin 4096) (l : Fin 128)
    (h1 : lo V n ≤ r) (h2 : r < hi V n) :
    refOut V (ix2 r l) = attend (refQ V) (refK V) (refV V) (lo V n) (hi V n) r l := by
  have hp : r.val - lo V n < 512 := by have := (room V h n).1; omega
  have e : lo V n + (⟨r.val - lo V n, hp⟩ : Fin 512).val = r.val := by show lo V n + (r.val - lo V n) = r.val; omega
  refine (gathered _ (pairs V) r l n ⟨r.val - lo V n, hp⟩ (pairs_seg V h n r h1 h2) (pairs_pos V h n r h1 h2)).trans ?_
  refine (mixed_row V h hq hk n ⟨r.val - lo V n, hp⟩ l (lt_of_eq_of_lt e h2)).trans ?_
  rw [e]

/-- The run of the reference, with its result folded. -/
theorem runs (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v135) = refOut (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun _ h c => ⟨(h c).1.trans ?_, (h c).2⟩) (run (F := Ideal) m ρ)
  unfold refOut mixed zeroed shares spread sumOf laidV laid fill proj pairs
  rfl

end Cert.ReferenceIdeal.Value

end
-- ==== Proof.Algebraic.lean ====
/- The idealized kernel and the reference leave the same array. Each row lies in one segment, and there both results
   are the attention of that row over its segment; the two memories hold the same arguments. -/
module

public import proofs.«01_k».proof.Proof.Frames
public import proofs.«01_k».proof.Proof.KernelValue
public import proofs.«01_k».proof.Proof.RefRow

@[expose] public section

set_option maxRecDepth 16384

noncomputable section

namespace Cert.Attention

open Idealize.ShloMosaic Idealize.ShloMosaic.TcCoe Idealize.SL.Sem
open Cert.ReferenceIdeal.Value (bound refQ refK refV lo hi refOut refOut_row)

/-- The kernel's memory, and the reference's. -/
abbrev KMem := (ℓ : Loc Cert.KernelIdeal.nD Cert.KernelIdeal.τ Cert.KernelIdeal.sig) → Buf (Elt Ideal) ℓ
abbrev RMem := (ℓ : Loc Cert.ReferenceIdeal.nD Cert.ReferenceIdeal.τ Cert.ReferenceIdeal.sig) → Buf (Elt Ideal) ℓ

/-- The two memories hold the same arguments on device `c`. -/
structure Agree (m : KMem) (m' : RMem) (c : Dev Cert.KernelIdeal.nD) : Prop where
  x : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  cu : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  wq : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  wk : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  wv : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  bq : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  bk : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  bv : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)

variable {m : KMem} {m' : RMem} {c : Dev Cert.KernelIdeal.nD}

theorem Agree.bound (a : Agree m m' c) : bound (StableHlo.launchContents m' c) = Cert.KernelIdeal.Gen.word m c :=
  funext fun n => congrFun a.cu (ix1 n)

/-- Equal parts give equal linear images. -/
theorem lin_congr {x x' : Fin 4096 → Fin 128 → EReal} {W W' : Fin 128 → Fin 128 → EReal} {b b' : Fin 128 → EReal}
    (hx : x = x') (hW : W = W') (hb : b = b') : lin x W b = lin x' W' b' := by subst hx hW hb; rfl

theorem Agree.queries (a : Agree m m' c) : refQ (StableHlo.launchContents m' c) = Cert.KernelIdeal.Gen.queries m c :=
  lin_congr (funext fun r => funext fun d => congrFun a.x (ix2 r d)) (funext fun d => funext fun l => congrFun a.wq (ix2 d l))
    (funext fun l => congrFun a.bq (ix1 l))

theorem Agree.keys (a : Agree m m' c) : refK (StableHlo.launchContents m' c) = Cert.KernelIdeal.Gen.keys m c :=
  lin_congr (funext fun r => funext fun d => congrFun a.x (ix2 r d)) (funext fun d => funext fun l => congrFun a.wk (ix2 d l))
    (funext fun l => congrFun a.bk (ix1 l))

theorem Agree.values (a : Agree m m' c) : refV (StableHlo.launchContents m' c) = Cert.KernelIdeal.Gen.values m c :=
  lin_congr (funext fun r => funext fun d => congrFun a.x (ix2 r d)) (funext fun d => funext fun l => congrFun a.wv (ix2 d l))
    (funext fun l => congrFun a.bv (ix1 l))

/-- Under the precondition the queries and keys are real. -/
theorem real_rows (hpre : Cert.Pre_KernelIdeal_finite_segments (hPre_finite_segments := factsFinite) m) (c : Dev Cert.KernelIdeal.nD) :
    (∀ r l, IsReal (Cert.KernelIdeal.Gen.queries m c r l)) ∧ ∀ r l, IsReal (Cert.KernelIdeal.Gen.keys m c r l) := by
  obtain ⟨-, h0, h2, h3, h5, h6⟩ := hpre c
  obtain ⟨x, wq, wk, bq, bk⟩ := isReal_of_finite _ _ _ _ _ _ _ _ h0 h2 h3 h5 h6
  exact ⟨IsReal.lin (fun r d => x (ix2 r d)) (fun d l => wq (ix2 d l)) fun l => bq (ix1 l),
    IsReal.lin (fun r d => x (ix2 r d)) (fun d l => wk (ix2 d l)) fun l => bk (ix1 l)⟩

/-- One entry: both results are the attention over the row's segment. -/
theorem same_entry (a : Agree m m' c) (h : Cert.KernelIdeal.Gen.InRangeAll m)
    (hq : ∀ r l, IsReal (Cert.KernelIdeal.Gen.queries m c r l)) (hk : ∀ r l, IsReal (Cert.KernelIdeal.Gen.keys m c r l))
    (r : Fin 4096) (l : Fin 128) :
    refOut (StableHlo.launchContents m' c) (ix2 r l) = Cert.KernelIdeal.Gen.result m h c (ix2 r l) := by
  obtain ⟨n, h1, h2⟩ := (h c).segment r.val r.isLt
  have eb := a.bound
  have elo : lo (StableHlo.launchContents m' c) n = (Cert.KernelIdeal.Gen.word m c n.castSucc).toNat :=
    congrArg BitVec.toNat (congrFun eb _)
  have ehi : hi (StableHlo.launchContents m' c) n = (Cert.KernelIdeal.Gen.word m c n.succ).toNat :=
    congrArg BitVec.toNat (congrFun eb _)
  refine (refOut_row _ (eb ▸ h c) (by rw [a.queries]; exact hq) (by rw [a.keys]; exact hk) n r l (elo ▸ h1) (ehi ▸ h2)).trans ?_
  rw [a.queries, a.keys, a.values, elo, ehi]
  exact (Cert.KernelIdeal.Gen.result_row m h c n r l h1 h2).symm

/-- The arrays are equal. -/
theorem same (a : Agree m m' c) (h : Cert.KernelIdeal.Gen.InRangeAll m)
    (hq : ∀ r l, IsReal (Cert.KernelIdeal.Gen.queries m c r l)) (hk : ∀ r l, IsReal (Cert.KernelIdeal.Gen.keys m c r l)) :
    refOut (StableHlo.launchContents m' c) = Cert.KernelIdeal.Gen.result m h c := by
  funext i
  rw [← ix2_eta i]
  exact same_entry a h hq hk _ _

/-- Kernel and reference, idealized, leave the same result. -/
theorem algebraic : Cert.algebraic_KernelIdeal_ReferenceIdeal_pre_finite_segments (hPre_finite_segments := factsFinite) := by
  intro m g m' g' hpre hagree
  have h := range_finite m hpre
  refine ⟨fun c => Cert.KernelIdeal.Gen.result m h c,
    (θ_run Cert.KernelIdeal.defs _ _).mono (fun _ h => h.1) (Cert.KernelIdeal.Gen.runs m g h), ?_⟩
  refine (θ_run Cert.ReferenceIdeal.defs _ _).mono (fun _ hr c => ⟨(hr c).1.trans ?_, (hr c).2⟩) (Cert.ReferenceIdeal.Value.runs m' g')
  obtain ⟨e0, e1, e2, e3, e4, e5, e6, e7⟩ := hagree c
  have q := real_rows hpre c
  exact same ⟨e0, e1, e2, e3, e4, e5, e6, e7⟩ h q.1 q.2

end Cert.Attention

end
-- ==== Proof.lean ====
module

public import proofs.«01_k».proof.Defs
public import proofs.«01_k».proof.Proof.Frames
public import proofs.«01_k».proof.Proof.Algebraic

@[expose] public section

noncomputable section

namespace Cert.Proof

open Cert.Attention

theorem claim : Cert.Claim :=
  ⟨Cert.Kernel.Gen.facts, Cert.KernelIdeal.Gen.facts, Cert.ReferenceIdeal.Gen.facts, factsSegments, factsFinite,
    frame_kernel, frame_ideal, frame_ideal_finite, frame_reference, frame_reference_finite, preserves, algebraic⟩

end Cert.Proof

end
